-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x8192 : Shape := ⟨2, ![4, 8192]⟩
abbrev S1 : Shape := ⟨1, ![1]⟩
abbrev S16 : Shape := ⟨1, ![16]⟩
abbrev S64 : Shape := ⟨1, ![64]⟩
abbrev S32768 : Shape := ⟨1, ![32768]⟩
abbrev S2064 : Shape := ⟨1, ![2064]⟩
abbrev S2048 : Shape := ⟨1, ![2048]⟩
abbrev S_ : Shape := ⟨0, ![]⟩

abbrev nBuf : Table → Nat
  | .hbm => 13
  | .local .scVector .vmem => 3
  | _ => 0

abbrev bufTy : (tb : Table) → Fin (nBuf tb) → BufTy
  | .hbm, ⟨0, _⟩ => ⟨S4x8192, .i32⟩
  | .hbm, ⟨1, _⟩ => ⟨S1, .f32⟩
  | .hbm, ⟨2, _⟩ => ⟨S1, .f32⟩
  | .hbm, ⟨3, _⟩ => ⟨S1, .f32⟩
  | .hbm, ⟨4, _⟩ => ⟨S1, .f32⟩
  | .hbm, ⟨5, _⟩ => ⟨S16, .f32⟩
  | .hbm, ⟨6, _⟩ => ⟨S16, .f32⟩
  | .hbm, ⟨7, _⟩ => ⟨S16, .f32⟩
  | .hbm, ⟨8, _⟩ => ⟨S16, .f32⟩
  | .hbm, ⟨9, _⟩ => ⟨S64, .f32⟩
  | .hbm, ⟨10, _⟩ => ⟨S32768, .i32⟩
  | .hbm, ⟨11, _⟩ => ⟨S32768, .f32⟩
  | .hbm, ⟨12, _⟩ => ⟨S4x8192, .f32⟩
  | .local .scVector .vmem, ⟨0, _⟩ => ⟨S2064, .i32⟩
  | .local .scVector .vmem, ⟨1, _⟩ => ⟨S2048, .f32⟩
  | .local .scVector .vmem, ⟨2, _⟩ => ⟨S64, .f32⟩
  | _, _ => ⟨S4x8192, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v5_scv : Ref sig .scVector := ⟨.hbm, 10, rfl⟩
abbrev main_v4_scv : Ref sig .scVector := ⟨.hbm, 9, rfl⟩
abbrev main_v6_scv : Ref sig .scVector := ⟨.hbm, 11, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 16], ![false, false]⟩

def k0_mult1 (i : grid0.Coords) : BitVec 32 :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c2048_i32 : BitVec 32 := 2048#32
  let v2 : BitVec 32 := Scalar.muli v1 c2048_i32
  v2
def k0_mult2 (i : grid0.Coords) : BitVec 32 :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c2048_i32 : BitVec 32 := 2048#32
  let v2 : BitVec 32 := Scalar.muli v1 c2048_i32
  let v3 : BitVec 32 := v2
  let c16_i32 : BitVec 32 := 16#32
  let v4 : BitVec 32 := Scalar.subi v3 c16_i32
  let c0_i32 : BitVec 32 := 0#32
  let v5 : BitVec 32 := Scalar.maxsi v4 c0_i32
  v5
def k0_off1 (i : grid0.Coords) : Fin 1 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c2048_i32 : BitVec 32 := 2048#32
  let v2 : BitVec 32 := Scalar.muli v1 c2048_i32
  let v3 : BitVec 32 := v2
  let c16_i32 : BitVec 32 := 16#32
  let v4 : BitVec 32 := Scalar.subi v3 c16_i32
  let c0_i32 : BitVec 32 := 0#32
  let v5 : BitVec 32 := Scalar.maxsi v4 c0_i32
  let v6 : BitVec 32 := v5
  ![v6.toNat]
def k0_off2 (i : grid0.Coords) : Fin 1 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c2048_i32 : BitVec 32 := 2048#32
  let v2 : BitVec 32 := Scalar.muli v1 c2048_i32
  let v3 : BitVec 32 := v2
  ![v3.toNat]
abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x8192 : Shape := ⟨2, ![4, 8192]⟩
abbrev S1 : Shape := ⟨1, ![1]⟩
abbrev S4 : Shape := ⟨1, ![4]⟩
abbrev S5 : Shape := ⟨1, ![5]⟩
abbrev S6 : Shape := ⟨1, ![6]⟩
abbrev S4x8192x1 : Shape := ⟨3, ![4, 8192, 1]⟩
abbrev S1x1x4 : Shape := ⟨3, ![1, 1, 4]⟩
abbrev S4x8192x4 : Shape := ⟨3, ![4, 8192, 4]⟩
abbrev S_ : Shape := ⟨0, ![]⟩
abbrev S1x1 : Shape := ⟨2, ![1, 1]⟩
abbrev S1x1x5 : Shape := ⟨3, ![1, 1, 5]⟩
abbrev S4x8192x5 : Shape := ⟨3, ![4, 8192, 5]⟩
abbrev S1x1x6 : Shape := ⟨3, ![1, 1, 6]⟩
abbrev S4x8192x6 : Shape := ⟨3, ![4, 8192, 6]⟩
abbrev S4x8191 : Shape := ⟨2, ![4, 8191]⟩
abbrev S4x1 : Shape := ⟨2, ![4, 1]⟩

abbrev nBuf : Space → Nat
  | .hbm => 56
  | .vmem => 0
  | .smem => 0
  | _ => 0

abbrev bufTy : (tb : Table) → Fin (tcTables nBuf tb) → BufTy
  | .hbm, ⟨0, _⟩ => ⟨S4x8192, .i32⟩
  | .hbm, ⟨1, _⟩ => ⟨S1, .f32⟩
  | .hbm, ⟨2, _⟩ => ⟨S1, .f32⟩
  | .hbm, ⟨3, _⟩ => ⟨S1, .f32⟩
  | .hbm, ⟨4, _⟩ => ⟨S1, .f32⟩
  | .hbm, ⟨5, _⟩ => ⟨S4, .i32⟩
  | .hbm, ⟨6, _⟩ => ⟨S5, .i32⟩
  | .hbm, ⟨7, _⟩ => ⟨S6, .i32⟩
  | .hbm, ⟨8, _⟩ => ⟨S4x8192x1, .i32⟩
  | .hbm, ⟨9, _⟩ => ⟨S1x1x4, .i32⟩
  | .hbm, ⟨10, _⟩ => ⟨S4x8192x4, .i32⟩
  | .hbm, ⟨11, _⟩ => ⟨S4x8192x4, .i32⟩
  | .hbm, ⟨12, _⟩ => ⟨S4x8192x4, .i1⟩
  | .hbm, ⟨13, _⟩ => ⟨S_, .i1⟩
  | .hbm, ⟨14, _⟩ => ⟨S4x8192, .i1⟩
  | .hbm, ⟨15, _⟩ => ⟨S4x8192, .f32⟩
  | .hbm, ⟨16, _⟩ => ⟨S1x1, .f32⟩
  | .hbm, ⟨17, _⟩ => ⟨S4x8192, .f32⟩
  | .hbm, ⟨18, _⟩ => ⟨S4x8192, .f32⟩
  | .hbm, ⟨19, _⟩ => ⟨S4x8192x1, .i32⟩
  | .hbm, ⟨20, _⟩ => ⟨S1x1x5, .i32⟩
  | .hbm, ⟨21, _⟩ => ⟨S4x8192x5, .i32⟩
  | .hbm, ⟨22, _⟩ => ⟨S4x8192x5, .i32⟩
  | .hbm, ⟨23, _⟩ => ⟨S4x8192x5, .i1⟩
  | .hbm, ⟨24, _⟩ => ⟨S_, .i1⟩
  | .hbm, ⟨25, _⟩ => ⟨S4x8192, .i1⟩
  | .hbm, ⟨26, _⟩ => ⟨S4x8192, .f32⟩
  | .hbm, ⟨27, _⟩ => ⟨S1x1, .f32⟩
  | .hbm, ⟨28, _⟩ => ⟨S4x8192, .f32⟩
  | .hbm, ⟨29, _⟩ => ⟨S4x8192, .f32⟩
  | .hbm, ⟨30, _⟩ => ⟨S4x8192x1, .i32⟩
  | .hbm, ⟨31, _⟩ => ⟨S1x1x6, .i32⟩
  | .hbm, ⟨32, _⟩ => ⟨S4x8192x6, .i32⟩
  | .hbm, ⟨33, _⟩ => ⟨S4x8192x6, .i32⟩
  | .hbm, ⟨34, _⟩ => ⟨S4x8192x6, .i1⟩
  | .hbm, ⟨35, _⟩ => ⟨S_, .i1⟩
  | .hbm, ⟨36, _⟩ => ⟨S4x8192, .i1⟩
  | .hbm, ⟨37, _⟩ => ⟨S4x8192, .f32⟩
  | .hbm, ⟨38, _⟩ => ⟨S1x1, .f32⟩
  | .hbm, ⟨39, _⟩ => ⟨S4x8192, .f32⟩
  | .hbm, ⟨40, _⟩ => ⟨S4x8192, .f32⟩
  | .hbm, ⟨41, _⟩ => ⟨S4x8191, .f32⟩
  | .hbm, ⟨42, _⟩ => ⟨S4x8191, .f32⟩
  | .hbm, ⟨43, _⟩ => ⟨S4x8191, .f32⟩
  | .hbm, ⟨44, _⟩ => ⟨S_, .f32⟩
  | .hbm, ⟨45, _⟩ => ⟨S4x1, .f32⟩
  | .hbm, ⟨46, _⟩ => ⟨S4x8192, .f32⟩
  | .hbm, ⟨47, _⟩ => ⟨S4x8191, .f32⟩
  | .hbm, ⟨48, _⟩ => ⟨S4x8191, .f32⟩
  | .hbm, ⟨49, _⟩ => ⟨S4x8191, .f32⟩
  | .hbm, ⟨50, _⟩ => ⟨S_, .f32⟩
  | .hbm, ⟨51, _⟩ => ⟨S4x1, .f32⟩
  | .hbm, ⟨52, _⟩ => ⟨S4x8192, .f32⟩
  | .hbm, ⟨53, _⟩ => ⟨S1x1, .f32⟩
  | .hbm, ⟨54, _⟩ => ⟨S4x8192, .f32⟩
  | .hbm, ⟨55, _⟩ => ⟨S4x8192, .f32⟩
  | _, _ => ⟨S4x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_2 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]
-- ==== Proof.Loop.lean ====
/-
  The SparseCore task's body, whose 128 steps the program writes out one after another, as a LOOP: what comes before the
  steps (`head`), the first step (`first`, the only one that looks at where the tile stands in its row), the other 127
  as one step repeated (`rest`), and the copy out (`tail`).
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal

@[expose] public section

noncomputable section

namespace Cert.Proof.Trips

open Cert.KernelIdeal Cert.KernelIdeal.Gen
open Idealize.ShloMosaic Idealize.SL.Sem

variable {F : FTy → Type} [FloatOps F]

/-- Lanes whose word is `n`. -/
def eqW (v : IVec S16 32) (n : BitVec 32) : IVec S16 1 := cmpi .eq v (broadcast S16 n)

/-- Lanes whose word is one of the first group's four. -/
def inA (v : IVec S16 32) : IVec S16 1 :=
  ori (ori (ori (eqW v 464#32) (eqW v 1135#32)) (eqW v 2293#32)) (eqW v 3244#32)

/-- Lanes whose word is one of the second group's five. -/
def inB (v : IVec S16 32) : IVec S16 1 :=
  ori (ori (ori (ori (eqW v 318#32) (eqW v 373#32)) (eqW v 547#32)) (eqW v 389#32)) (eqW v 1816#32)

/-- Lanes whose word is one of the third group's six. -/
def inC (v : IVec S16 32) : IVec S16 1 :=
  ori (ori (ori (ori (ori (eqW v 922#32) (eqW v 1263#32)) (eqW v 1310#32)) (eqW v 3621#32)) (eqW v 4950#32)) (eqW v 7932#32)

/-- Lanes where three successive words are one of each group. -/
def hit (v0 v1 v2 : IVec S16 32) : IVec S16 1 := andi (andi (inA v0) (inB v1)) (inC v2)

/-- Lanes at least two words into the row. -/
def inRow (v3 : BitVec 32) : IVec S16 1 :=
  cmpi .sge (addi (broadcast S16 (Scalar.remsi v3 8192#32)) (iota .scVector S16 32 [0] iota_S16_d0_w32_scVector))
    (broadcast S16 2#32)

abbrev castI (v : Vec F S16 .i32) : IVec S16 32 := shapeCast S16 v shapeCasts_S16_S16
abbrev castF (v : Vec F S16 .f32) : FVec F S16 .f32 := shapeCast S16 v shapeCasts_S16_S16

theorem inb_d (a : ℕ) (h : a + 16 ≤ 2064) : ∀ b, (![a] : Fin 1 → Nat) b + S16.size b ≤ S2064.size b := by
  intro b; fin_cases b; exact h

theorem inb_o (a : ℕ) (h : a + 16 ≤ 2048) : ∀ b, (![a] : Fin 1 → Nat) b + S16.size b ≤ S2048.size b := by
  intro b; fin_cases b; exact h

variable (i : grid0.Coords)

/-- The programs of the tile at `i`. -/
abbrev PG (α : Type) := Prog (TpuEff nD τ sig (Elt F) Λ₀ (.scVector ((i 0).castLE hcore0) ((i 1).castLE hsub0))) α

variable (arg2 : Memref sig .scVector .hbm S32768 .i32) (harg2 : arg2.IsWhole)
  (arg3 : Memref sig .scVector .hbm S64 .f32) (harg3 : arg3.IsWhole)
  (arg4 : Memref sig .scVector .hbm S32768 .f32) (harg4 : arg4.IsWhole)
  (arg5 : Memref sig .scVector .vmem S2064 .i32) (harg5 : arg5.IsWhole)
  (arg6 : Memref sig .scVector .vmem S2048 .f32) (harg6 : arg6.IsWhole)
  (arg7 : Memref sig .scVector .vmem S64 .f32) (harg7 : arg7.IsWhole)
  (arg8 arg9 arg10 arg11 : DmaSems sig S_)

/-- One step's read of the words scratch at `a`. -/
def rd (a : ℕ) (h : a + 16 ≤ 2064) : PG (F := F) i (IVec S16 32) := do
  let v : Vec F S16 .i32 ← Prog.lift (.load arg5 (Rect.unit (s := S2064) ![a] S16.size (inb_d a h)).toLoadRect (View.loadsAt_vmem h_S16))
  pure (castI v)

/-- One step's write of the results scratch at `a`. -/
def wr (a : ℕ) (h : a + 16 ≤ 2048) (p : FVec F S16 .f32) : PG (F := F) i PUnit := do
  let _v : Vec F S16 .f32 ← Prog.lift (.load arg6 (Rect.unit (s := S2048) ![a] S16.size (inb_o a h)).toLoadRect (View.loadsAt_vmem h_S16))
  Prog.lift (.store arg6 (Rect.unit (s := S2048) ![a] S16.size (inb_o a h)) (castF p) Finset.univ (View.stores_vmem_bits_univ h_S16 rfl) (.inl rfl))

/-- The first step. -/
def first (v3 : BitVec 32) (w z : FVec F S16 .f32) : PG (F := F) i PUnit := do
  let v2 ← rd i arg5 16 (by decide)
  let v1 ← rd i arg5 15 (by decide)
  let v0 ← rd i arg5 14 (by decide)
  wr i arg6 0 (by decide) (select (andi (hit v0 v1 v2) (inRow v3)) w z)

/-- Step `k` of the others. -/
def trip (w z : FVec F S16 .f32) (k : ℕ) (hk : k < 128) : PG (F := F) i PUnit := do
  let v2 ← rd i arg5 (16 * k + 16) (by omega)
  let v1 ← rd i arg5 (16 * k + 15) (by omega)
  let v0 ← rd i arg5 (16 * k + 14) (by omega)
  wr i arg6 (16 * k) (by omega) (select (hit v0 v1 v2) w z)

/-- The last `n` steps, from step `k` on. -/
def rest (w z : FVec F S16 .f32) : (n k : ℕ) → k + n = 128 → PG (F := F) i PUnit
  | 0, _, _ => pure ⟨⟩
  | n + 1, k, h => do
      trip i arg5 arg6 w z k (by omega)
      rest w z n (k + 1) (by omega)

/-- What comes before the steps. -/
def head : PG (F := F) i (Σ' (_ : BitVec 32) (_ : FVec F S16 .f32), FVec F S16 .f32) :=
  k0_part1 i arg2 harg2 arg3 harg3 arg4 harg4 arg5 harg5 arg6 harg6 arg7 harg7 arg8 arg9 arg10 arg11

/-- The copy out. -/
def tail : PG (F := F) i PUnit := do
  let o : Memref sig .scVector .hbm S2048 .f32 := arg4.slice (Rect.unit (s := S32768) (k0_off2 i) S2048.size (k0_off2_inb i)) (fun _ => rfl)
  Prog.lift (.enqueueDma arg6 (.here o) (.dma arg11.sem) harg6.wordExact (View.wordExact_bits rfl) ⟨Or.inl rfl, trivial⟩)
  Prog.lift (.waitDma2 arg11.sem arg6 o harg6.wordExact (View.wordExact_bits rfl))
  pure ⟨⟩

/-- The steps and the copy out, from what the loads before them gave. -/
def after (a : Σ' (_ : BitVec 32) (_ : FVec F S16 .f32), FVec F S16 .f32) : PG (F := F) i PUnit :=
  first i arg5 arg6 a.1 a.2.1 a.2.2 >>= fun _ => rest i arg5 arg6 a.2.1 a.2.2 127 1 (by decide) >>= fun _ => tail i arg4 arg6 harg6 arg11

/-- The body as a loop. -/
def looped : PG (F := F) i PUnit :=
  head i arg2 harg2 arg3 harg3 arg4 harg4 arg5 harg5 arg6 harg6 arg7 harg7 arg8 arg9 arg10 arg11 >>= after i arg4 arg5 arg6 harg6 arg11

theorem body_eq_looped :
    cc0__seq_kernel (F := F) i arg2 harg2 arg3 harg3 arg4 harg4 arg5 harg5 arg6 harg6 arg7 harg7 arg8 arg9 arg10 arg11
      = looped i arg2 harg2 arg3 harg3 arg4 harg4 arg5 harg5 arg6 harg6 arg7 harg7 arg8 arg9 arg10 arg11 := by
  sl_kernel_rfl

end Cert.Proof.Trips
-- ==== Proof.Setup.lean ====
/-
  The launch's set-up: the program as the launch theorem sees it, its resource algebra, and the arrays and scratch
  buffers that one SparseCore task holds, in the task's own spelling.
-/
module

public import proofs.«01_k».proof.Proof.Loop

@[expose] public section

noncomputable section

namespace Cert.Proof.Trips

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the copies' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays of the one call, and a task's scratch -/

/-- The words, flat; the sixty-four weights; the scores, flat. -/
abbrev xLoc (d : Dev nD) : Loc nD τ sig := (SparseCore.T d).loc main_v5
abbrev wLoc (d : Dev nD) : Loc nD τ sig := (SparseCore.T d).loc main_v4
abbrev oLoc (d : Dev nD) : Loc nD τ sig := (SparseCore.T d).loc main_v6

abbrev xV : Memref sig .scVector .hbm S32768 .i32 := Memref.whole main_v5_scv
abbrev wV : Memref sig .scVector .hbm S64 .f32 := Memref.whole main_v4_scv
abbrev oV : Memref sig .scVector .hbm S32768 .f32 := Memref.whole main_v6_scv
abbrev dV : Memref sig .scVector .vmem S2064 .i32 := Memref.whole cc0_scratch0
abbrev rV : Memref sig .scVector .vmem S2048 .f32 := Memref.whole cc0_scratch1
abbrev uV : Memref sig .scVector .vmem S64 .f32 := Memref.whole cc0_scratch2

variable (d : Dev nD) (L : grid0.Coords)

abbrev cV : Fin τ.nSC := (L 0).castLE hcore0
abbrev jV : Fin τ.nSub := (L 1).castLE hsub0
/-- The vector subcore that runs the task at `L`. -/
abbrev VT : Thread nD τ := V d (cV L) (jV L)

theorem bound_one : grid0.bound 1 = 16 := rfl
abbrev jL : Fin 16 := Fin.cast bound_one (L 1)

end Cert.Proof.Trips
-- ==== Proof.Score.lean ====
/-
  What the kernel computes, position by position (`score`), and the word and lane arithmetic of one step: what the words
  scratch must hold (`Fetched`), and that a step's sixteen lanes are sixteen scores.
-/
module

public import proofs.«01_k».proof.Proof.Setup
public import Idealize.ShloMosaic.Lib.Pointwise.Index

@[expose] public section

noncomputable section

namespace Cert.Proof.Trips

open Cert.KernelIdeal Cert.KernelIdeal.Gen
open Idealize.ShloMosaic

variable {F : FTy → Type} [FloatOps F]

/-- Word `k` of the flat words. -/
def word (X : S32768.Idx → BitVec 32) (k : ℕ) : BitVec 32 := X (ix1 (Fin.ofNat 32768 k))

/-- The lane of position `p`. -/
def lane (p : ℕ) : S16.Idx := ix1 (Fin.ofNat 16 p)

/-- Whether three words are one of each group, in order. -/
def hit1 (a b c : BitVec 32) : BitVec 1 := hit (fun _ => a) (fun _ => b) (fun _ => c) (lane 0)

theorem select_hit_apply (v0 v1 v2 : IVec S16 32) (w z : FVec F S16 .f32) (t : S16.Idx) :
    select (hit v0 v1 v2) w z t = Scalar.select (hit1 (v0 t) (v1 t) (v2 t)) (w t) (z t) := rfl

theorem select_and_apply (v0 v1 v2 : IVec S16 32) (c : IVec S16 1) (w z : FVec F S16 .f32) (t : S16.Idx) :
    select (andi (hit v0 v1 v2) c) w z t
      = Scalar.select (IntOp.andi (hit1 (v0 t) (v1 t) (v2 t)) (c t)) (w t) (z t) := rfl

/-- The score at flat position `p`: the weight where the row's words `p-2`, `p-1`, `p` are a match, else zero. -/
def score (X : S32768.Idx → BitVec 32) (w z : S16.Idx → F .f32) (p : ℕ) : F .f32 :=
  if 2 ≤ p % 8192 then Scalar.select (hit1 (word X (p - 2)) (word X (p - 1)) (word X p)) (w (lane p)) (z (lane p))
  else z (lane p)

/-- The words scratch of the tile that begins at position `b`: sixteen words before it, then its own. -/
def Fetched (X : S32768.Idx → BitVec 32) (b : ℕ) (x : S2064.Idx → BitVec 32) : Prop :=
  ∀ j : S2064.Idx, 16 ≤ b + (j 0).val → x j = word X (b + (j 0).val - 16)

/-- The results scratch once `k` steps have been taken. -/
def upTo (X : S32768.Idx → BitVec 32) (w z : S16.Idx → F .f32) (b k : ℕ) (r : S2048.Idx → F .f32) : S2048.Idx → F .f32 :=
  fun j => if (j 0).val < 16 * k then score X w z (b + (j 0).val) else r j

theorem upTo_zero (X : S32768.Idx → BitVec 32) (w z : S16.Idx → F .f32) (b : ℕ) (r : S2048.Idx → F .f32) :
    upTo X w z b 0 r = r := by
  funext j; simp [upTo]

/-- Sixteen words of the scratch, from `a` on. -/
def from16 (x : S2064.Idx → BitVec 32) (a : ℕ) (h : a + 16 ≤ 2064) : IVec S16 32 :=
  fun t => x (ix1 ⟨a + (t 0).val, by have := (t 0).isLt; change (t 0).val < 16 at this; omega⟩)

theorem from16_apply {X : S32768.Idx → BitVec 32} {b : ℕ} {x : S2064.Idx → BitVec 32} (hx : Fetched X b x)
    (a : ℕ) (h : a + 16 ≤ 2064) (t : S16.Idx) (hb : 16 ≤ b + a + (t 0).val) :
    from16 x a h t = word X (b + a + (t 0).val - 16) := by
  unfold from16
  rw [hx _ (by simp only [ix1_0]; omega)]
  simp only [ix1_0, ← Nat.add_assoc]

theorem lane_eq (p : ℕ) (t : S16.Idx) (h : p % 16 = (t 0).val) : lane p = t := by
  rw [eq_ix1 t]; unfold lane; congr 1; exact Fin.ext (by simpa [Fin.ofNat] using h)

/-- One step's lanes are the scores, `k ≥ 1`. -/
theorem trip_lane {X : S32768.Idx → BitVec 32} {b : ℕ} {x : S2064.Idx → BitVec 32} (hx : Fetched X b x) (hb : b % 2048 = 0)
    (w z : FVec F S16 .f32) (k : ℕ) (hk : k < 128) (hk1 : 1 ≤ k) (t : S16.Idx) :
    select (hit (from16 x (16 * k + 14) (by omega)) (from16 x (16 * k + 15) (by omega)) (from16 x (16 * k + 16) (by omega))) w z t
      = score X w z (b + (16 * k + (t 0).val)) := by
  have ht : (t 0).val < 16 := (t 0).isLt
  rw [select_hit_apply,
    from16_apply hx _ _ _ (by omega), from16_apply hx _ _ _ (by omega), from16_apply hx _ _ _ (by omega)]
  unfold score
  rw [if_pos (by omega), lane_eq _ t (by omega)]
  congr 2 <;> congr 1 <;> omega

/-- The first step's lanes are the scores, given what its row mask says of each lane. -/
theorem first_lane {X : S32768.Idx → BitVec 32} {b : ℕ} {x : S2064.Idx → BitVec 32} (hx : Fetched X b x) (hb : b % 2048 = 0)
    (w z : FVec F S16 .f32) (v3 : BitVec 32)
    (hv : ∀ t : S16.Idx, inRow v3 t = BitVec.ofBool (decide (2 ≤ (b + (t 0).val) % 8192))) (t : S16.Idx) :
    select (andi (hit (from16 x 14 (by decide)) (from16 x 15 (by decide)) (from16 x 16 (by decide))) (inRow v3)) w z t
      = score X w z (b + (t 0).val) := by
  have ht : (t 0).val < 16 := (t 0).isLt
  rw [select_and_apply,
    hv t]
  unfold score
  rw [lane_eq (b + (t 0).val) t (by omega)]
  by_cases h : 2 ≤ (b + (t 0).val) % 8192
  · rw [if_pos h, from16_apply hx _ _ _ (by omega), from16_apply hx _ _ _ (by omega), from16_apply hx _ _ _ (by omega), decide_eq_true h]
    rw [show ∀ v : BitVec 1, IntOp.andi v (BitVec.ofBool true) = v by decide]
    congr 2 <;> congr 1 <;> omega
  · rw [if_neg h, decide_eq_false h]
    rw [show ∀ v : BitVec 1, IntOp.andi v (BitVec.ofBool false) = 0 by decide]
    exact if_neg (by decide)

/-- Where the tile at `L` begins. -/
def base (L : grid0.Coords) : ℕ := 2048 * (L 1).val + 2048 * (L 0).val

/-- The tile's first position as the program computes it. -/
def baseW (L : grid0.Coords) : BitVec 32 :=
  Scalar.muli (Scalar.addi (Scalar.muli (BitVec.ofNat 32 (L 1).val) 1#32) (BitVec.ofNat 32 (L 0).val)) 2048#32

theorem base_lt (L : grid0.Coords) : base L + 2048 ≤ 32768 := by
  have h0 : (L 0).val < 1 := (L 0).isLt
  have h1 : (L 1).val < 16 := (L 1).isLt
  unfold base; omega

theorem base_mod (L : grid0.Coords) : base L % 2048 = 0 := by unfold base; omega

theorem inRow_baseW' : ∀ (L : grid0.Coords) (t : Fin 16),
    inRow (baseW L) (ix1 t) = BitVec.ofBool (decide (2 ≤ (base L + t.val) % 8192)) := by decide +kernel

theorem inRow_baseW (L : grid0.Coords) (t : S16.Idx) :
    inRow (baseW L) t = BitVec.ofBool (decide (2 ≤ (base L + (t 0).val) % 8192)) := by
  rw [eq_ix1 t]; exact inRow_baseW' L (t 0)

end Cert.Proof.Trips
-- ==== Proof.Steps.lean ====
/-
  The 128 steps of one task, run: one step takes the results scratch from `upTo … k` to `upTo … (k + 1)` (`wp_trip`,
  stated once for every step, and `wp_first` for the first); the steps together by induction (`wp_rest`).
-/
module

public import proofs.«01_k».proof.Proof.Score
public import Idealize.ShloMosaic.Lib.WritesUnit
public import Idealize.ShloMosaic.Lib.Pointwise.Reshape

@[expose] public section

noncomputable section

namespace Cert.Proof.Trips

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

/-- A step's read of the words scratch, as its sixteen words. -/
theorem read_words (x : S2064.Idx → BitVec 32) (a : ℕ) (h : a + 16 ≤ 2064) :
    castI (F := F) (View.readAt (Elt F) (dV).view (Rect.unit (s := S2064) ![a] S16.size (inb_d a h)).toLoadRect x) = from16 x a h := by
  unfold castI
  rw [shapeCast_id]
  funext t
  show x _ = x _
  congr 1
  funext b; fin_cases b
  exact Fin.ext (by show a + 1 * (t 0).val = a + (t 0).val; omega)

/-- Sixteen results written at `16 k`, each the score there: the results scratch one step on. -/
theorem writes_step (X : S32768.Idx → BitVec 32) (w z : S16.Idx → F .f32) (b k : ℕ) (hk : k < 128) (r : S2048.Idx → F .f32)
    (p : FVec F S16 .f32) (hp : ∀ t : S16.Idx, p t = score X w z (b + (16 * k + (t 0).val))) (a : ℕ) (ha : a = 16 * k)
    (h : ∀ c, (![a] : Fin 1 → Nat) c + S16.size c ≤ S2048.size c) :
    (rV).view.writes (Elt F) (upTo X w z b k r) [⟨Rect.unit (s := S2048) ![a] S16.size h, castF p⟩] = upTo X w z b (k + 1) r := by
  subst ha
  unfold castF; rw [shapeCast_id]
  refine funext fun j => ?_
  have key := View.read_writes_cons_unit (Val := Elt F) (rV).view (upTo X w z b k r) h p [] j rfl
  refine (show _ = (rV).view.read (Elt F) _ j from rfl).trans (key.trans ?_)
  have hj : (j 0).val < 2048 := (j 0).isLt
  split
  · rename_i hm
    have hm0 : 16 * k ≤ (j 0).val ∧ (j 0).val < 16 * k + 16 := hm 0
    rw [hp]
    unfold upTo
    rw [if_pos (by omega)]
    congr 2
    show 16 * k + ((j 0).val - 16 * k) = (j 0).val
    omega
  · rename_i hm
    have hm0 : ¬(16 * k ≤ (j 0).val ∧ (j 0).val < 16 * k + 16) := fun e => hm fun c => by fin_cases c; exact e
    show upTo X w z b k r j = _
    unfold upTo
    by_cases h1 : (j 0).val < 16 * k
    · rw [if_pos h1, if_pos (by omega)]
    · rw [if_neg h1, if_neg (by omega)]

variable (X : S32768.Idx → BitVec 32) (w z : FVec F S16 .f32) (x : Buf (Elt F) ((VT d L).loc cc0_scratch0))
  (r : Buf (Elt F) ((VT d L).loc cc0_scratch1))

/-- The words scratch and the results scratch once `k` steps have been taken. -/
abbrev held2 (k : ℕ) : sProp 𝕄 :=
  iprop(((dV).view.loc (VT d L) ↦{fullShare} x) ∗ ((rV).view.loc (VT d L) ↦{fullShare} upTo X w z (base L) k r))

theorem held2_zero :
    iprop(((dV).view.loc (VT d L) ↦{fullShare} x) ∗ ((rV).view.loc (VT d L) ↦{fullShare} r)) ⊢ (held2 d L X w z x r 0 : sProp 𝕄) := by
  unfold held2; rw [upTo_zero]

theorem wp_trip (hx : Fetched X (base L) x) (k : ℕ) (hk : k < 128) (hk1 : 1 ≤ k) :
    held2 d L X w z x r k
      ⊢ (wp frame (wpE (defs₀ (F := F)) 𝒱₀ (VT d L) none) Set.univ (trip L dV rV w z k hk)
          fun _ => held2 d L X w z x r (k + 1) : sProp 𝕄) := by
  unfold trip rd wr held2
  iintro ⟨Hd, Hr⟩
  sl_exec
  sl_step
  isplitl [Hd]; · iexact Hd
  rw [read_words x (16 * k + 14) (by omega), read_words x (16 * k + 15) (by omega), read_words x (16 * k + 16) (by omega),
    writes_step X w z (base L) k hk r _ (trip_lane hx (base_mod L) w z k hk hk1) _ rfl]
  iexact Hr

theorem wp_first (hx : Fetched X (base L) x) :
    held2 d L X w z x r 0
      ⊢ (wp frame (wpE (defs₀ (F := F)) 𝒱₀ (VT d L) none) Set.univ (first L dV rV (baseW L) w z)
          fun _ => held2 d L X w z x r 1 : sProp 𝕄) := by
  unfold first rd wr held2
  iintro ⟨Hd, Hr⟩
  sl_exec
  sl_step
  isplitl [Hd]; · iexact Hd
  rw [read_words x 14 (by omega), read_words x 15 (by omega), read_words x 16 (by omega),
    writes_step X w z (base L) 0 (by decide) r _
      (fun t => (first_lane hx (base_mod L) w z (baseW L) (inRow_baseW L) t).trans (by rw [Nat.mul_zero, Nat.zero_add])) _ rfl]
  iexact Hr

theorem wp_rest (hx : Fetched X (base L) x) : ∀ (n k : ℕ) (h : k + n = 128), 1 ≤ k →
    (held2 d L X w z x r k
      ⊢ (wp frame (wpE (defs₀ (F := F)) 𝒱₀ (VT d L) none) Set.univ (rest L dV rV w z n k h)
          fun _ => held2 d L X w z x r 128 : sProp 𝕄))
  | 0, k, h, _ => by
    obtain rfl : k = 128 := by omega
    unfold rest
    iintro H
    sl_step
    iexact H
  | n + 1, k, h, hk => by
    unfold rest
    rw [wp_bind]
    exact (wp_trip d L X w z x r hx k (by omega) hk).trans
      (wp_mono frame _ _ fun _ => wp_rest hx n (k + 1) (by omega) (by omega))

end Cert.Proof.Trips
-- ==== Proof.Task.lean ====
/-
  One task run whole: the three copies in and their waits, the 128 steps (`Steps.lean`), the copy out and its wait. Its
  block of the scores ends at `scores`, a function of the words and the weights alone.
-/
module

public import proofs.«01_k».proof.Proof.Steps

@[expose] public section

noncomputable section

namespace Cert.Proof.Trips

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

/-- Sixteen of the sixty-four weights, from `a` on. -/
def wpart (W : S64.Idx → F .f32) (a : ℕ) : FVec F S16 .f32 := fun t => W (ix1 (Fin.ofNat 64 (a + (t 0).val)))

/-- The product of the four weights, lane by lane. -/
def wvec (W : S64.Idx → F .f32) : FVec F S16 .f32 :=
  mulf (mulf (mulf (wpart W 0) (wpart W 16)) (wpart W 32)) (wpart W 48)

/-- Zero in every lane. -/
def zvec : FVec F S16 .f32 := broadcast S16 (Scalar.ofBits .f32 0x00000000#32 : F .f32)

/-- The scores, flat. -/
def scores (X : S32768.Idx → BitVec 32) (W : S64.Idx → F .f32) : S32768.Idx → F .f32 :=
  fun p => score X (wvec W) zvec (p 0).val

abbrev cellA : GSem nD τ sig := (VT d L, .dma cc0_scratch3.sem)
abbrev cellB : GSem nD τ sig := (VT d L, .dma cc0_scratch4.sem)
abbrev cellC : GSem nD τ sig := (VT d L, .dma cc0_scratch5.sem)
abbrev cellD : GSem nD τ sig := (VT d L, .dma cc0_scoped0.sem)

/-- The task's block of the scores, as the task addresses it. -/
abbrev oBlk : Memref sig .scVector .hbm S2048 .f32 :=
  (oV).slice (Rect.unit (s := S32768) (k0_off2 L) S2048.size (k0_off2_inb L)) (fun _ => rfl)

theorem off1_eq : ∀ L : grid0.Coords, k0_off1 L = ![base L - 16] := by decide +kernel
theorem off2_eq (L : grid0.Coords) : k0_off2 L = ![base L] := k0_off2_eq L

/-- A load of the weights scratch holding the weights, as sixteen of them. -/
theorem read_weights (u W : S64.Idx → F .f32) (a : ℕ) (ha : a + 16 ≤ 64) (h : ∀ c, (![a] : Fin 1 → Nat) c + S16.size c ≤ S64.size c) :
    castF (F := F) (View.readAt (Elt F) (uV).view (Rect.unit (s := S64) ![a] S16.size h).toLoadRect
      (View.write (Elt F) (uV).view u (View.read (Elt F) (wV).view W) Finset.univ)) = wpart W a := by
  unfold castF
  rw [shapeCast_id, View.write_whole_univ]
  funext t
  show W _ = W _
  congr 1
  funext b; fin_cases b
  have ht : (t 0).val < 16 := (t 0).isLt
  exact Fin.ext (by show a + 1 * (t 0).val = (a + (t 0).val) % 64; omega)

/-- The words the first copy reads. -/
theorem halo_word (X : S32768.Idx → BitVec 32) (t : S16.Idx) :
    View.read (Elt F) ((xV).slice (Rect.unit (s := S32768) (k0_off1 L) S16.size (k0_off1_inb L)) (fun _ => rfl)).view X t
      = word X (base L - 16 + (t 0).val) := by
  refine congrArg X (funext fun c => ?_)
  have hb := base_lt L
  have ht : (t 0).val < 16 := (t 0).isLt
  match c with
  | 0 =>
    refine Fin.ext ?_
    show k0_off1 L 0 + 1 * (t 0).val = (base L - 16 + (t 0).val) % 32768
    rw [show k0_off1 L 0 = base L - 16 from congrFun (off1_eq L) 0]; omega

/-- The words the second copy reads. -/
theorem own_word (X : S32768.Idx → BitVec 32) (t : S2048.Idx) :
    View.read (Elt F) ((xV).slice (Rect.unit (s := S32768) (k0_off2 L) S2048.size (k0_off2_inb L)) (fun _ => rfl)).view X t
      = word X (base L + (t 0).val) := by
  refine congrArg X (funext fun c => ?_)
  have hb := base_lt L
  have ht : (t 0).val < 2048 := (t 0).isLt
  match c with
  | 0 =>
    refine Fin.ext ?_
    show k0_off2 L 0 + 1 * (t 0).val = (base L + (t 0).val) % 32768
    rw [show k0_off2 L 0 = base L from congrFun (off2_eq L) 0]; omega

theorem halo_pos (b j : ℕ) (hb : b % 2048 = 0) (hj : j < 16) (h : 16 ≤ b + j) : b - 16 + j = b + j - 16 := by omega

/-- The words scratch after the two copies into it. -/
def filled (x : S2064.Idx → BitVec 32) (p1 : S16.Idx → BitVec 32) (p2 : S2048.Idx → BitVec 32) : S2064.Idx → BitVec 32 :=
  (dV).view.writes (Elt F) x
    [⟨Rect.unit (s := S2064) ![16] S2048.size inb_S2064_S2048_16, p2⟩, ⟨Rect.unit (s := S2064) ![0] S16.size inb_S2064_S16_0, p1⟩]

theorem read_dV (f : S2064.Idx → BitVec 32) (j : S2064.Idx) : (dV).view.read (Elt F) f j = f j := rfl

theorem filled_own (x : S2064.Idx → BitVec 32) (p1 : S16.Idx → BitVec 32) (p2 : S2048.Idx → BitVec 32) (j : S2064.Idx) (t : S2048.Idx)
    (h : ∀ a, (j a).val = (![16] : Fin 1 → Nat) a + (t a).val) : (dV).view.read (Elt F) (filled (F := F) x p1 p2) j = p2 t := by
  have key := View.read_writes_cons_unit_of_mem (Val := Elt F) (dV).view x inb_S2064_S2048_16 p2
    [⟨Rect.unit (s := S2064) ![0] S16.size inb_S2064_S16_0, p1⟩] j t rfl h
  unfold filled
  exact key

theorem filled_halo (x : S2064.Idx → BitVec 32) (p1 : S16.Idx → BitVec 32) (p2 : S2048.Idx → BitVec 32) (j : S2064.Idx) (t : S16.Idx)
    (h : ∀ a, (j a).val = (![0] : Fin 1 → Nat) a + (t a).val) (h' : (j 0).val < 16) :
    (dV).view.read (Elt F) (filled (F := F) x p1 p2) j = p1 t := by
  have k1 := View.read_writes_cons_unit_of_not_mem (Val := Elt F) (dV).view x inb_S2064_S2048_16 p2
    [⟨Rect.unit (s := S2064) ![0] S16.size inb_S2064_S16_0, p1⟩] j rfl 0 (.inl h')
  have k2 := View.read_writes_cons_unit_of_mem (Val := Elt F) (dV).view x inb_S2064_S16_0 p1 [] j t rfl h
  unfold filled
  exact k1.trans k2

/-- What the two copies into the words scratch leave there. -/
theorem fetched (X : S32768.Idx → BitVec 32) (x : S2064.Idx → BitVec 32) (p1 : S16.Idx → BitVec 32) (p2 : S2048.Idx → BitVec 32)
    (h1 : ∀ t, p1 t = word X (base L - 16 + (t 0).val)) (h2 : ∀ t, p2 t = word X (base L + (t 0).val)) :
    Fetched X (base L) (filled (F := F) x p1 p2) := by
  intro j hj
  have hj2 : (j 0).val < 2064 := (j 0).isLt
  rw [← read_dV (F := F) (filled (F := F) x p1 p2) j]
  rcases Nat.lt_or_ge (j 0).val 16 with hlt | hge
  · rw [filled_halo x p1 p2 j (ix1 ⟨(j 0).val, hlt⟩) (fun a => by match a with | 0 => exact (Nat.zero_add _).symm) hlt, h1, ix1_0]
    exact congrArg (word X) (halo_pos _ _ (base_mod L) hlt hj)
  · rw [filled_own x p1 p2 j (ix1 ⟨(j 0).val - 16, by omega⟩) (fun a => by match a with | 0 => exact (Nat.add_sub_of_le hge).symm), h2, ix1_0]
    exact congrArg (word X) (Nat.add_sub_assoc hge _).symm

theorem read_oBlk (f : S32768.Idx → F .f32) (j : S2048.Idx) :
    (oBlk L).view.read (Elt F) f j = f ((oBlk L).view.emb j) := rfl

/-- The block's positions in the scores. -/
theorem oBlk_pos (j : S2048.Idx) : (((oBlk L).view.emb j : S32768.Idx) 0).val = base L + (j 0).val := by
  show k0_off2 L 0 + 1 * (j 0).val = base L + (j 0).val
  rw [show k0_off2 L 0 = base L from congrFun (off2_eq L) 0, Nat.one_mul]

/-- The finished results scratch. -/
theorem upTo_done (X : S32768.Idx → BitVec 32) (w z : S16.Idx → F .f32) (b : ℕ) (r : S2048.Idx → F .f32) (j : S2048.Idx) :
    upTo X w z b 128 r j = score X w z (b + (j 0).val) := by
  have hj : (j 0).val < 2048 := (j 0).isLt
  unfold upTo
  rw [if_pos (by omega)]

/-- The block written with the finished results scratch holds the scores. -/
theorem out_block (X : S32768.Idx → BitVec 32) (W : S64.Idx → F .f32) (g : S32768.Idx → F .f32) (p : S2048.Idx → F .f32)
    (hp : ∀ j, p j = score X (wvec W) zvec (base L + (j 0).val)) :
    ∀ i ∈ (oBlk L).view.set, (oBlk L).view.writes (Elt F) g [⟨Rect.whole S2048, p⟩] i = scores X W i := by
  intro i hi
  obtain ⟨j, -, rfl⟩ := Finset.mem_map.mp hi
  have key := View.read_writes_cons_emb (Val := Elt F) (oBlk L).view g (Rect.whole S2048) p [] j
  rw [Rect.emb_whole_apply, read_oBlk] at key
  exact (key.trans (hp j)).trans (congrArg (score X (wvec W) zvec) (oBlk_pos L j).symm)

variable (q : PosShare TreeShare) (X : Buf (Elt F) (xLoc d)) (W : Buf (Elt F) (wLoc d))
  (g : Buf (Elt F) (oLoc d)) (x : Buf (Elt F) ((VT d L).loc cc0_scratch0)) (r : Buf (Elt F) ((VT d L).loc cc0_scratch1))
  (u : Buf (Elt F) ((VT d L).loc cc0_scratch2)) (O : CellTallies nD τ sig (HIx 1)) (Ws : Waits sig (HIx 1))

/-- The task's two read tokens of the words, and its share of the weights. -/
abbrev reads : sProp 𝕄 :=
  iprop(((xV).view.loc (VT d L) ↦{Transfers.shareTokN q 0} X) ∗ ((xV).view.loc (VT d L) ↦{Transfers.shareTokN q 1} X)
    ∗ ((wV).view.loc (VT d L) ↦{q} W))

/-- Nothing new is owed and every wait is one of the task's own. -/
abbrev owesMore : sProp 𝕄 := iprop(∃ Ws', ⌜∀ p ∈ Ws', p ∈ Ws ∨ p.2 = none⌝ ∗ owes (VT d L) O Ws')

set_option sl_exec.dmaWindow true in
/-- The three copies in, their waits, and the four loads of the weights. -/
theorem wp_head :
    iprop(Transfers.MayWaits (VT d L) (default : HIx 1) O ∗ reads d L q X W
      ∗ ((dV).view.loc (VT d L) ↦{fullShare} x) ∗ ((uV).view.loc (VT d L) ↦{fullShare} u)
      ∗ (semVal (cellA d L) 0 ∗ semVal (cellB d L) 0 ∗ semVal (cellC d L) 0) ∗ owes (VT d L) O Ws)
      ⊢ (wp frame (wpE (defs₀ (F := F)) 𝒱₀ (VT d L) none) Set.univ
          (head L xV (Memref.isWhole_whole _) wV (Memref.isWhole_whole _) oV (Memref.isWhole_whole _) dV (Memref.isWhole_whole _)
            rV (Memref.isWhole_whole _) uV (Memref.isWhole_whole _) cc0_scratch3 cc0_scratch4 cc0_scratch5 cc0_scoped0)
          fun a => iprop(⌜a = ⟨baseW L, wvec W, zvec⟩⌝ ∗ reads d L q X W
            ∗ (∃ x, ⌜Fetched X (base L) x⌝ ∗ (dV).view.loc (VT d L) ↦{fullShare} x) ∗ (∃ u, (uV).view.loc (VT d L) ↦{fullShare} u)
            ∗ (semVal (cellA d L) 0 ∗ semVal (cellB d L) 0 ∗ semVal (cellC d L) 0)
            ∗ owesMore d L O Ws) : sProp 𝕄) := by
  unfold head k0_part1
  iintro ⟨#Hmw, ⟨Hx0, Hx1, Hw⟩, Hd, Hu, ⟨HA, HB, HC⟩, HO⟩
  sl_exec
  sl_step
  have hw : wp_head.sl.v33 d L W u = wvec W := by
    show mulf (mulf (mulf (castF _) (castF _)) (castF _)) (castF _) = _
    unfold wvec
    rw [← read_weights u W 0 (by decide) inb_S64_S16_0, ← read_weights u W 16 (by decide) inb_S64_S16_16,
      ← read_weights u W 32 (by decide) inb_S64_S16_32, ← read_weights u W 48 (by decide) inb_S64_S16_48]
    rfl
  have hf := fetched (F := F) L X x (wp_head.sl.dma0 d L X) (wp_head.sl.dma0_1 d L X) (halo_word (F := F) L X) (own_word (F := F) L X)
  isplitr
  · ipureintro
    rw [hw]; rfl
  isplitl [Hx0 Hx1 Hw]
  · isplitl [Hx0]; · iexact Hx0
    isplitl [Hx1]; · iexact Hx1
    iexact Hw
  isplitl [Hd]
  · iexists _; isplitr
    · ipureintro; exact hf
    iexact Hd
  isplitl [Hu]; · iexists _; iexact Hu
  isplitl [HA HB HC]
  · isplitl [HA]; · iexact HA
    isplitl [HB]; · iexact HB
    iexact HC
  iexists _; isplitr
  swap; · iexact HO
  ipureintro; intro p hp
  simp only [Finset.mem_insert] at hp
  rcases hp with hp | hp | hp | hp
  · exact .inr (hp ▸ rfl)
  · exact .inr (hp ▸ rfl)
  · exact .inr (hp ▸ rfl)
  · exact .inl hp

theorem out_held (p : S2048.Idx → F .f32) (hp : ∀ j, p j = score X (wvec W) zvec (base L + (j 0).val)) :
    ((oBlk L).view.loc (VT d L) ↦[(oBlk L).view.set]{fullShare} (oBlk L).view.writes (Elt F) g [⟨Rect.whole S2048, p⟩])
      ⊢ ((oBlk L).view.loc (VT d L) ↦[(oBlk L).view.set]{fullShare} scores X W : sProp 𝕄) := by
  rw [pointsTo_congr (out_block L X W g p hp)]

/-- The copy out and its wait. -/
theorem wp_tail :
    iprop(Transfers.MayWaits (VT d L) (default : HIx 1) O
      ∗ ((oBlk L).view.loc (VT d L) ↦[(oBlk L).view.set]{fullShare} g)
      ∗ ((rV).view.loc (VT d L) ↦{fullShare} upTo X (wvec W) zvec (base L) 128 r)
      ∗ semVal (cellD d L) 0 ∗ owes (VT d L) O Ws)
      ⊢ (wp frame (wpE (defs₀ (F := F)) 𝒱₀ (VT d L) none) Set.univ (tail L oV rV (Memref.isWhole_whole _) cc0_scoped0)
          fun _ => iprop(((oBlk L).view.loc (VT d L) ↦[(oBlk L).view.set]{fullShare} scores X W)
            ∗ (∃ r, (rV).view.loc (VT d L) ↦{fullShare} r) ∗ semVal (cellD d L) 0 ∗ owesMore d L O Ws) : sProp 𝕄) := by
  unfold tail
  iintro ⟨#Hmw, Ho, Hr, HD, HO⟩
  sl_exec
  sl_step
  isplitl [Ho]
  · iapply (out_held d L X W g (wp_tail.sl.dma0 d L X W r) (fun j => upTo_done X (wvec W) zvec (base L) r j))
    iexact Ho
  isplitl [Hr]; · iexists _; iexact Hr
  isplitl [HD]; · iexact HD
  iexists _; isplitr
  swap; · iexact HO
  ipureintro; intro p hp
  rcases Finset.mem_insert.mp hp with hp | hp
  · exact .inr (hp ▸ rfl)
  · exact .inl hp

/-- The task. -/
theorem wp_task :
    iprop(Transfers.MayWaits (VT d L) (default : HIx 1) O ∗ reads d L q X W
      ∗ ((oBlk L).view.loc (VT d L) ↦[(oBlk L).view.set]{fullShare} g)
      ∗ ((dV).view.loc (VT d L) ↦{fullShare} x) ∗ ((rV).view.loc (VT d L) ↦{fullShare} r) ∗ ((uV).view.loc (VT d L) ↦{fullShare} u)
      ∗ (semVal (cellA d L) 0 ∗ semVal (cellB d L) 0 ∗ semVal (cellC d L) 0) ∗ semVal (cellD d L) 0 ∗ owes (VT d L) O Ws)
      ⊢ (wp frame (wpE (defs₀ (F := F)) 𝒱₀ (VT d L) none) Set.univ
          (looped L xV (Memref.isWhole_whole _) wV (Memref.isWhole_whole _) oV (Memref.isWhole_whole _) dV (Memref.isWhole_whole _)
            rV (Memref.isWhole_whole _) uV (Memref.isWhole_whole _) cc0_scratch3 cc0_scratch4 cc0_scratch5 cc0_scoped0)
          fun _ => iprop(reads d L q X W
            ∗ ((oBlk L).view.loc (VT d L) ↦[(oBlk L).view.set]{fullShare} scores X W)
            ∗ ((∃ x, (dV).view.loc (VT d L) ↦{fullShare} x) ∗ (∃ r, (rV).view.loc (VT d L) ↦{fullShare} r) ∗ (∃ u, (uV).view.loc (VT d L) ↦{fullShare} u))
            ∗ (semVal (cellA d L) 0 ∗ semVal (cellB d L) 0 ∗ semVal (cellC d L) 0) ∗ semVal (cellD d L) 0
            ∗ owesMore d L O Ws) : sProp 𝕄) := by
  unfold looped
  rw [wp_bind]
  iintro ⟨#Hmw, Hrd, Ho, Hd, Hr, Hu, HS, HD, HO⟩
  icases (wp_head d L q X W x u O Ws) $$ [Hrd Hd Hu HS HO] with H1
  · isplitr; · iexact Hmw
    isplitl [Hrd]; · iexact Hrd
    isplitl [Hd]; · iexact Hd
    isplitl [Hu]; · iexact Hu
    isplitl [HS]; · iexact HS
    iexact HO
  iapply (wp_wand_r frame _ _)
  isplitl [H1]; · iexact H1
  iintro %a ⟨%ha, Hrd, ⟨%x', %hx, Hd⟩, Hu, HS, ⟨%Ws', %hWs, HO⟩⟩
  subst ha
  icases (wp_first d L X (wvec W) zvec x' r hx) $$ [Hd Hr] with H1
  · iapply (held2_zero d L X (wvec W) zvec x' r)
    isplitl [Hd]; · iexact Hd
    iexact Hr
  unfold after
  rw [wp_bind]
  iapply (wp_wand_r frame _ _)
  isplitl [H1]; · iexact H1
  iintro %_ H2
  icases (wp_rest d L X (wvec W) zvec x' r hx 127 1 (by decide) (le_refl 1)) $$ [H2] with H1
  · iexact H2
  rw [wp_bind]
  iapply (wp_wand_r frame _ _)
  isplitl [H1]; · iexact H1
  iintro %_ ⟨Hd, Hr⟩
  icases (wp_tail d L X W g r O Ws') $$ [Ho Hr HD HO] with H1
  · isplitr; · iexact Hmw
    isplitl [Ho]; · iexact Ho
    isplitl [Hr]; · iexact Hr
    isplitl [HD]; · iexact HD
    iexact HO
  iapply (wp_wand_r frame _ _)
  isplitl [H1]; · iexact H1
  iintro %_ ⟨Ho, Hr, HD, ⟨%Ws2, %hWs2, HO⟩⟩
  isplitl [Hrd]; · iexact Hrd
  isplitl [Ho]; · iexact Ho
  isplitl [Hd Hr Hu]
  · isplitl [Hd]; · iexists _; iexact Hd
    isplitl [Hr]; · iexact Hr
    iexact Hu
  isplitl [HS]; · iexact HS
  isplitl [HD]; · iexact HD
  iexists Ws2; isplitr
  swap; · iexact HO
  ipureintro; intro p hp
  exact (hWs2 p hp).elim (fun h => hWs p h) .inr

end Cert.Proof.Trips
-- ==== Proof.Tiles.lean ====
/-
  The launch of the task on the sixteen vector subcores: what the handshakes carry (a share of the words and of the
  weights, and a block of the scores, for each task), the task against its obligation, and the sixteen parts back together.
-/
module

public import proofs.«01_k».proof.Proof.Task

@[expose] public section

noncomputable section

namespace Cert.Proof.Trips

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The blocks of the scores, and what the handshakes carry -/

theorem odiv : 16 ∣ S32768.size 0 := ⟨2048, rfl⟩
/-- Block `i` of the scores. -/
abbrev oPart (i : Fin 16) : Rect S32768 := Rect.part (s := S32768) (a₀ := 0) odiv i
abbrev oSet (i : Fin 16) : Finset S32768.Idx := ((oV).view.slice (oPart i)).set

/-- Task `i`'s share of the words and of the weights. -/
abbrev shr (i : Fin 16) : PosShare TreeShare := Transfers.shareTok fullShare 16 i

variable (X : (d : Dev nD) → Buf (Elt F) (xLoc d)) (W : (d : Dev nD) → Buf (Elt F) (wLoc d))

abbrev xPts (d : Dev nD) : sProp 𝕄 := xLoc d ↦{fullShare} X d
abbrev wPts (d : Dev nD) : sProp 𝕄 := wLoc d ↦{fullShare} W d
abbrev oAny (d : Dev nD) : sProp 𝕄 := iprop(∃ f, oLoc d ↦{fullShare} f)
abbrev oPts (d : Dev nD) : sProp 𝕄 := oLoc d ↦{fullShare} scores (X d) (W d)
abbrev xSh (d : Dev nD) (i : Fin 16) : sProp 𝕄 := xLoc d ↦{shr i} X d
abbrev wSh (d : Dev nD) (i : Fin 16) : sProp 𝕄 := wLoc d ↦{shr i} W d
abbrev oAnyAt (d : Dev nD) (i : Fin 16) : sProp 𝕄 := iprop(∃ f, oLoc d ↦[oSet i]{fullShare} f)
abbrev oAt (d : Dev nD) (i : Fin 16) : sProp 𝕄 := oLoc d ↦[oSet i]{fullShare} scores (X d) (W d)

/-- The call takes the words, the weights and the scores whole; each task its shares of the first two and its block of
    the third, which it brings back at the scores. -/
def P : (K (F := F)).Pay (nD := nD) (Val := Elt F) (Name := ℕ) (U := UU) where
  st := fun q d _ => match q with | 0 => iprop(xPts X d ∗ wPts W d ∗ oAny d)
  dn := fun q d _ => match q with | 0 => iprop(xPts X d ∗ wPts W d ∗ oPts X W d)
  go := fun q d _ i => match q with
    | 0 => iprop(xSh X d (Fin.cast nSub_zero i) ∗ wSh W d (Fin.cast nSub_zero i) ∗ oAnyAt d (Fin.cast nSub_zero i))
  td := fun q d _ i => match q with
    | 0 => iprop(xSh X d (Fin.cast nSub_zero i) ∗ wSh W d (Fin.cast nSub_zero i) ∗ oAt X W d (Fin.cast nSub_zero i))
  x := fun _ _ => iprop(emp)

instance P_storable : (P X W).IsStorable where
  st q d _ := match q with
    | 0 => (inferInstance : BI.Storable (upEmb : UEmb _ 𝕄) iprop(xPts X d ∗ wPts W d ∗ oAny d))
  dn q d _ := match q with
    | 0 => (inferInstance : BI.Storable (upEmb : UEmb _ 𝕄) iprop(xPts X d ∗ wPts W d ∗ oPts X W d))
  go q d _ i := match q with
    | 0 => (inferInstance : BI.Storable (upEmb : UEmb _ 𝕄)
      iprop(xSh X d (Fin.cast nSub_zero i) ∗ wSh W d (Fin.cast nSub_zero i) ∗ oAnyAt d (Fin.cast nSub_zero i)))
  td q d _ i := match q with
    | 0 => (inferInstance : BI.Storable (upEmb : UEmb _ 𝕄)
      iprop(xSh X d (Fin.cast nSub_zero i) ∗ wSh W d (Fin.cast nSub_zero i) ∗ oAt X W d (Fin.cast nSub_zero i)))

/-! ## The task's own semaphores and scratch -/

section Tile

variable (d : Dev nD) (L : grid0.Coords)

theorem oPart_eq : Rect.unit (s := S32768) (k0_off2 L) S2048.size (k0_off2_inb L) = oPart (jL L) := by
  unfold oPart Rect.part Rect.block
  congr 1 <;> funext a
  · rw [off2_eq]
    have h0 : (L 0).val < 1 := (L 0).isLt
    match a with
    | 0 => simp [Shape.partIx, Shape.partSize, base]; omega
  · match a with
    | 0 => simp [Shape.partSize]

theorem oBlk_set : (oBlk L).view.set = oSet (jL L) := by
  show ((oV).view.slice (Rect.unit (s := S32768) (k0_off2 L) S2048.size (k0_off2_inb L))).set = _
  rw [oPart_eq]

theorem oBlk_pts (f : Buf (Elt F) (oLoc d)) :
    ((oBlk L).view.loc (VT d L) ↦[(oBlk L).view.set]{fullShare} f : sProp 𝕄) = oLoc d ↦[oSet (jL L)]{fullShare} f := by
  rw [oBlk_set]

theorem mem_cell (s : DmaSem sig) (h : (SemLoc.dma s : SemLoc sig).isScoped .scVector = true) :
    ((VT d L, .dma s) : GSem nD τ sig) ∈ ownCells (VT d L) := mem_ownCells.mpr ⟨rfl, h⟩

/-- The task's semaphores: its three copies in, its copy out, and the rest. -/
theorem ownSems0_V :
    (ownSems0 (VT d L) : sProp 𝕄)
      = iprop(semVal (cellA d L) 0 ∗ semVal (cellB d L) 0 ∗ semVal (cellC d L) 0 ∗ semVal (cellD d L) 0
          ∗ bigSep (((((ownCells (VT d L)).erase (cellA d L)).erase (cellB d L)).erase (cellC d L)).erase (cellD d L)) fun g => semVal g 0) := by
  unfold SparseCore.Cfg.ownSems0
  have hA := mem_cell d L cc0_scratch3.sem (by decide)
  have hB := Finset.mem_erase.mpr ⟨show cellB d L ≠ cellA d L by simp [cellA, cellB]; decide, mem_cell d L cc0_scratch4.sem (by decide)⟩
  have hC := Finset.mem_erase.mpr ⟨show cellC d L ≠ cellB d L by simp [cellC, cellB]; decide,
    Finset.mem_erase.mpr ⟨show cellC d L ≠ cellA d L by simp [cellA, cellC]; decide, mem_cell d L cc0_scratch5.sem (by decide)⟩⟩
  have hD := Finset.mem_erase.mpr ⟨show cellD d L ≠ cellC d L by simp [cellC, cellD]; decide,
    Finset.mem_erase.mpr ⟨show cellD d L ≠ cellB d L by simp [cellB, cellD]; decide,
    Finset.mem_erase.mpr ⟨show cellD d L ≠ cellA d L by simp [cellA, cellD]; decide, mem_cell d L cc0_scoped0.sem (by decide)⟩⟩⟩
  rw [SparseCore.bigSep_erase' hA, SparseCore.bigSep_erase' hB, SparseCore.bigSep_erase' hC, SparseCore.bigSep_erase' hD]

/-- A scratch array of the task, as the machine names it. -/
abbrev scr (b : Ref sig .scVector) : DevRef τ sig := (Proc.scVector (cV L) (jV L)).devRef b

theorem scr_ne {a b : Ref sig .scVector} (h : a ≠ b) : scr L a ≠ scr L b := fun e => h (Proc.devRef_injective _ e)

/-- The task's scratch: its words, its results, its weights, and the rest. -/
theorem ownBufs_V :
    (ownBufs (VT d L) : sProp 𝕄)
      = iprop((∃ f, (VT d L).loc cc0_scratch0 ↦{fullShare} f) ∗ (∃ f, (VT d L).loc cc0_scratch1 ↦{fullShare} f)
          ∗ (∃ f, (VT d L).loc cc0_scratch2 ↦{fullShare} f)
          ∗ bigSep ((((ownRefs (τ := τ) (.scVector (cV L) (jV L))).erase (scr L cc0_scratch0)).erase (scr L cc0_scratch1)).erase (scr L cc0_scratch2))
              fun b => iprop(∃ f, ((d, b) : Loc nD τ sig) ↦{fullShare} f)) := by
  unfold SparseCore.Cfg.ownBufs
  have hm : ∀ b : Ref sig .scVector, (scr L b).owner = .proc (Proc.scVector (cV L) (jV L)) → scr L b ∈ ownRefs (τ := τ) (.scVector (cV L) (jV L)) :=
    fun b h => SparseCore.Cfg.mem_ownRefs_of_owner (p := Proc.scVector (cV L) (jV L)) h
  have h1 := Finset.mem_erase.mpr ⟨scr_ne L (show (cc0_scratch1 : Ref sig .scVector) ≠ cc0_scratch0 by decide), hm cc0_scratch1 rfl⟩
  have h2 := Finset.mem_erase.mpr ⟨scr_ne L (show (cc0_scratch2 : Ref sig .scVector) ≠ cc0_scratch1 by decide),
    Finset.mem_erase.mpr ⟨scr_ne L (show (cc0_scratch2 : Ref sig .scVector) ≠ cc0_scratch0 by decide), hm cc0_scratch2 rfl⟩⟩
  refine (SparseCore.bigSep_erase' (hm cc0_scratch0 rfl)).trans ?_
  rw [SparseCore.bigSep_erase' h1, SparseCore.bigSep_erase' h2]

/-- A share of the words: two tokens and what is left. -/
theorem two_tokens (q : PosShare TreeShare) (f : Buf (Elt F) (xLoc d)) :
    (xLoc d ↦{q} f : sProp 𝕄)
      = iprop((xLoc d ↦{Transfers.shareDrop q 2} f) ∗ (xLoc d ↦{Transfers.shareTokN q 0} f) ∗ xLoc d ↦{Transfers.shareTokN q 1} f) := by
  rw [Entails.antisymm (Transfers.pointsTo_toks_range q 2).1 (Transfers.pointsTo_toks_range q 2).2,
    show Finset.range 2 = {0, 1} from rfl, SparseCore.bigSep_insert' (by decide), bigSep_singleton]

/-- The task against what the launch hands it and asks back. -/
theorem tile_body (hF : (K (F := F)).Facts) (O : CellTallies nD τ sig (HIx 1)) (Ws : Waits sig (HIx 1)) (hO : ∀ g, O g none = 0) :
    iprop(levAts (K (F := F)).L (K (F := F)).lev ∗ emp
        ∗ (xSh X d (jL L) ∗ wSh W d (jL L) ∗ oAnyAt d (jL L))
        ∗ scopedBufs (VT d L) ∗ scopedSems0 (VT d L) ∗ owes (VT d L) O Ws)
      ⊢ wp frame (wpE (defs₀ (F := F)) 𝒱₀ (VT d L) none) Set.univ
          (cc0__seq_kernel L xV (Memref.isWhole_whole _) wV (Memref.isWhole_whole _) oV (Memref.isWhole_whole _)
            dV (Memref.isWhole_whole _) rV (Memref.isWhole_whole _) uV (Memref.isWhole_whole _) cc0_scratch3 cc0_scratch4 cc0_scratch5 cc0_scoped0)
          fun _ => iprop((xSh X d (jL L) ∗ wSh W d (jL L) ∗ oAt X W d (jL L))
            ∗ scopedBufs (VT d L) ∗ scopedSems0 (VT d L) ∗ owesMore d L O Ws) := by
  rw [body_eq_looped]
  rw [(K (F := F)).scopedBufs_V hF d (cV L) (jV L), SparseCore.Cfg.scopedSems0_V (Val := Elt F) d (cV L) (jV L), ownSems0_V, ownBufs_V]
  iintro ⟨#Hlv, -, ⟨Hx, Hw, %g, Ho⟩, ⟨⟨%fd, Hd⟩, ⟨%fr, Hr⟩, ⟨%fu, Hu⟩, Hbufs⟩, ⟨HA, HB, HC, HD, Hsems⟩, HO⟩
  ihave Hmw := (show levAts (K (F := F)).L (K (F := F)).lev ⊢ Transfers.MayWaits (VT d L) (default : HIx 1) O from
    (K (F := F)).mayWaits_none (thr := VT d L) hO) $$ Hlv
  ihave Hx' := (Entails.of_eq (two_tokens d (shr (jL L)) (X d))) $$ Hx
  icases Hx' with ⟨Hxr, Hx0, Hx1⟩
  ihave Ho' := (Entails.of_eq (oBlk_pts d L g).symm) $$ Ho
  icases (wp_task d L (shr (jL L)) (X d) (W d) g fd fr fu O Ws) $$ [Hmw Hx0 Hx1 Hw Ho' Hd Hr Hu HA HB HC HD HO] with H1
  · isplitl [Hmw]; · iexact Hmw
    isplitl [Hx0 Hx1 Hw]
    · isplitl [Hx0]; · iexact Hx0
      isplitl [Hx1]; · iexact Hx1
      iexact Hw
    isplitl [Ho']; · iexact Ho'
    isplitl [Hd]; · iexact Hd
    isplitl [Hr]; · iexact Hr
    isplitl [Hu]; · iexact Hu
    isplitl [HA HB HC]
    · isplitl [HA]; · iexact HA
      isplitl [HB]; · iexact HB
      iexact HC
    isplitl [HD]; · iexact HD
    iexact HO
  iapply (wp_wand_r frame _ _)
  isplitl [H1]; · iexact H1
  iintro %_ ⟨⟨Hx0, Hx1, Hw⟩, Ho, ⟨Hd, Hr, Hu⟩, ⟨HA, HB, HC⟩, HD, HO⟩
  isplitl [Hxr Hx0 Hx1 Hw Ho]
  · isplitl [Hxr Hx0 Hx1]
    · iapply (Entails.of_eq (two_tokens d (shr (jL L)) (X d)).symm)
      isplitl [Hxr]; · iexact Hxr
      isplitl [Hx0]; · iexact Hx0
      iexact Hx1
    isplitl [Hw]; · iexact Hw
    iapply (Entails.of_eq (oBlk_pts d L (scores (X d) (W d)))); iexact Ho
  isplitl [Hd Hr Hu Hbufs]
  · isplitl [Hd]; · iexact Hd
    isplitl [Hr]; · iexact Hr
    isplitl [Hu]; · iexact Hu
    iexact Hbufs
  isplitl [HA HB HC HD Hsems]
  · isplitl [HA]; · iexact HA
    isplitl [HB]; · iexact HB
    isplitl [HC]; · iexact HC
    isplitl [HD]; · iexact HD
    iexact Hsems
  iexact HO

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__seq_kernel (coordsV c s)
          xV (Memref.isWhole_whole _) wV (Memref.isWhole_whole _) oV (Memref.isWhole_whole _) dV (Memref.isWhole_whole _)
          rV (Memref.isWhole_whole _) uV (Memref.isWhole_whole _) cc0_scratch3 cc0_scratch4 cc0_scratch5 cc0_scoped0) ⟨⟩ c s := rfl

theorem obl_post {thr : Thread nD τ} {A B C : sProp 𝕄} {O : CellTallies nD τ sig (HIx 1)} {Ws : Waits sig (HIx 1)} {q : Fin 1} :
    iprop(A ∗ B ∗ C ∗ ∃ W', ⌜∀ p ∈ W', p ∈ Ws ∨ p.2 = none⌝ ∗ owes thr O W')
      ⊢ iprop(A ∗ B ∗ C ∗ ∃ W', ⌜∀ p ∈ W', p ∈ Ws ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P X W) v₀ 0 := by
  intro d c i O Ws hO _ _
  simp only [show (P X W).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body X W d (coordsV ⟨_, hci.1⟩ ⟨_, hci.2⟩) hF O Ws hO).trans (wp_mono frame _ _ fun _ => obl_post)

end Tile

/-! ## The sixteen parts back together -/

theorem oSet_eq (i : Fin 16) : oSet i = (oPart i).set := by
  show ((View.whole (main_v6_scv : Ref sig .scVector)).slice (oPart i)).set = _
  rw [View.set_slice]; exact Finset.map_refl

theorem oSet_disjoint : ∀ i ∈ (Finset.univ : Finset (Fin 16)), ∀ j ∈ (Finset.univ : Finset (Fin 16)), i ≠ j → Disjoint (oSet i) (oSet j) :=
  fun i _ j _ h => by rw [oSet_eq, oSet_eq]; exact Rect.part_disjoint odiv h

theorem oSet_cover : (Finset.univ : Finset (Fin 16)).biUnion oSet = Finset.univ :=
  (Finset.biUnion_congr rfl fun i _ => oSet_eq i).trans (Rect.biUnion_part odiv)

theorem o_blocks (d : Dev nD) (f : Buf (Elt F) (oLoc d)) :
    (oLoc d ↦{fullShare} f : sProp 𝕄) = bigSep Finset.univ fun i : Fin 16 => oLoc d ↦[oSet i]{fullShare} f := by
  rw [← pointsTo_biUnion Finset.univ (ℓ := oLoc d) oSet oSet_disjoint, oSet_cover]

theorem toks {ℓ : Loc nD τ sig} (f : Buf (Elt F) ℓ) :
    (ℓ ↦{fullShare} f : sProp 𝕄) = iprop((ℓ ↦{Transfers.shareDrop fullShare 16} f) ∗ bigSep Finset.univ fun i : Fin 16 => ℓ ↦{shr i} f) :=
  Entails.antisymm (Transfers.pointsTo_toks fullShare 16).1 (Transfers.pointsTo_toks fullShare 16).2

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem o_any (d : Dev nD) (f : Buf (Elt F) (oLoc d)) :
    (bigSep Finset.univ fun i : Fin 16 => oLoc d ↦[oSet i]{fullShare} f) ⊢ (bigSep Finset.univ fun i : Fin 16 => oAnyAt d i : sProp 𝕄) :=
  bigSep_mono fun i _ => sProp.exists_intro f

theorem vecSplit : (K (F := F)).VecSplit' (P X W) 0 := by
  intro d c
  show iprop(xPts X d ∗ wPts W d ∗ oAny d) ⊢ |={Set.univ}=> iprop(
      (bigSep Finset.univ fun i : Fin ((K (F := F)).nSub 0) =>
        iprop(xSh X d (Fin.cast nSub_zero i) ∗ wSh W d (Fin.cast nSub_zero i) ∗ oAnyAt d (Fin.cast nSub_zero i)))
      ∗ ((bigSep Finset.univ fun i : Fin ((K (F := F)).nSub 0) =>
          iprop(xSh X d (Fin.cast nSub_zero i) ∗ wSh W d (Fin.cast nSub_zero i) ∗ oAt X W d (Fin.cast nSub_zero i)))
          -∗ iprop(xPts X d ∗ wPts W d ∗ oPts X W d)))
  rw [bigSep_tasks (F := F) (fun i => iprop(xSh X d i ∗ wSh W d i ∗ oAnyAt d i)),
    bigSep_tasks (F := F) (fun i => iprop(xSh X d i ∗ wSh W d i ∗ oAt X W d i)), bigSep_sep', bigSep_sep', bigSep_sep', bigSep_sep']
  unfold xPts wPts oPts
  rw [toks (X d), toks (W d), o_blocks d (scores (X d) (W d))]
  iintro ⟨⟨Hxr, Hx⟩, ⟨Hwr, Hw⟩, %f, Ho⟩
  ihave Ho' := (Entails.of_eq (o_blocks d f)) $$ Ho
  ihave Ho2 := (o_any d f) $$ Ho'
  imodintro
  isplitl [Hx Hw Ho2]
  · isplitl [Hx]; · iexact Hx
    isplitl [Hw]; · iexact Hw
    iexact Ho2
  iintro ⟨Hx, Hw, Ho⟩
  isplitl [Hxr Hx]
  · isplitl [Hxr]; · iexact Hxr
    iexact Hx
  isplitl [Hwr Hw]
  · isplitl [Hwr]; · iexact Hwr
    iexact Hw
  iexact Ho

end Cert.Proof.Trips
-- ==== Proof.Launch.lean ====
/-
  The whole program: the host operations that lay out the words and the weights, the call, the reshape of the scores.
  Its run ends with the result at the scores reshaped, the arguments as they were.
-/
module

public import proofs.«01_k».proof.Proof.Tiles
public import Idealize.ShloMosaic.Lib.Pipeline.Frame
public import Idealize.ShloMosaic.Lib.StableHlo.Run

@[expose] public section

noncomputable section

namespace Cert.Proof.Trips

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The host operations -/

/-- Those before the call. -/
def opsA : List (HloOp τ sig (Elt F)) :=
  [ StableHlo.unary main_arg1 main_v0 (broadcastInDim S16 ![0] bcast_S1_S16_0 : (⟨S1, .f32⟩ : BufTy).Contents (Elt F) → (⟨S16, .f32⟩ : BufTy).Contents (Elt F)),
    StableHlo.unary main_arg2 main_v1 (broadcastInDim S16 ![0] bcast_S1_S16_0 : (⟨S1, .f32⟩ : BufTy).Contents (Elt F) → (⟨S16, .f32⟩ : BufTy).Contents (Elt F)),
    StableHlo.unary main_arg3 main_v2 (broadcastInDim S16 ![0] bcast_S1_S16_0 : (⟨S1, .f32⟩ : BufTy).Contents (Elt F) → (⟨S16, .f32⟩ : BufTy).Contents (Elt F)),
    StableHlo.unary main_arg4 main_v3 (broadcastInDim S16 ![0] bcast_S1_S16_0 : (⟨S1, .f32⟩ : BufTy).Contents (Elt F) → (⟨S16, .f32⟩ : BufTy).Contents (Elt F)),
    StableHlo.nary ![main_v0, main_v1, main_v2, main_v3] main_v4 (fun u => (concatenate S64 0 [⟨S16, (u 0 : (⟨S16, .f32⟩ : BufTy).Contents (Elt F))⟩, ⟨S16, (u 1 : (⟨S16, .f32⟩ : BufTy).Contents (Elt F))⟩, ⟨S16, (u 2 : (⟨S16, .f32⟩ : BufTy).Contents (Elt F))⟩, ⟨S16, (u 3 : (⟨S16, .f32⟩ : BufTy).Contents (Elt F))⟩] concatenates_S16_S16_S16_S16_S64_d0 : (⟨S64, .f32⟩ : BufTy).Contents (Elt F))),
    StableHlo.reshape main_arg0 main_v5 (rfl : (.i32 : EltTy) = .i32) shapeCasts_S4x8192_S32768 ]

/-- The one after it. -/
def opB : HloOp τ sig (Elt F) := StableHlo.reshape main_v6 main_v7 (rfl : (.f32 : EltTy) = .f32) shapeCasts_S32768_S4x8192

theorem main_eq (d : Dev nD) : main (F := F) d = StableHlo.seq opsA >>= fun _ => sc.run d 0 >>= fun _ => StableHlo.seq [opB] >>= fun _ => pure ⟨⟩ := rfl

/-! ## The contents as they go -/

abbrev at' (b : Ref sig .tc) : DevRef τ sig := Proc.devRef .tc b

/-- The arrays before the call, -/
def VA (d : Dev nD) : Valuation τ sig (Elt F) := StableHlo.after opsA fun b => m (d, b)
/-- the words and the weights the call reads, -/
def Xs (d : Dev nD) : Buf (Elt F) (xLoc d) := VA m d (at' main_v5)
def Ws (d : Dev nD) : Buf (Elt F) (wLoc d) := VA m d (at' main_v4)
/-- the arrays after the call, -/
def VB (d : Dev nD) : Valuation τ sig (Elt F) := Function.update (VA m d) (at' main_v6) (scores (Xs m d) (Ws m d))
/-- and at the end. -/
def VC (d : Dev nD) : Valuation τ sig (Elt F) := opB.result (VB m d)

/-- The arrays of the TensorCore. -/
abbrev UC : Finset (DevRef τ sig) := Pipeline.ucRefs τ sig
abbrev three : Finset (DevRef τ sig) := {at' main_v5, at' main_v4, at' main_v6}

theorem opsA_sub : ∀ op ∈ (opsA (F := F)), op.bufs ⊆ UC := fun op h =>
  Pipeline.sub_ucRefs op ((List.forall_iff_forall_mem.mp (show (opsA (F := F)).Forall fun op => op.bufs ⊆ StableHlo.tcRefs τ sig from
    ⟨StableHlo.unary_bufs_sub .., StableHlo.unary_bufs_sub .., StableHlo.unary_bufs_sub .., StableHlo.unary_bufs_sub ..,
      StableHlo.nary_bufs_sub .., StableHlo.reshape_bufs_sub ..⟩)) op h)
theorem opsA_fresh : ∀ op ∈ (opsA (F := F)), op.fresh = ∅ :=
  List.forall_iff_forall_mem.mp (show (opsA (F := F)).Forall fun op => op.fresh = ∅ from ⟨rfl, rfl, rfl, rfl, rfl, rfl⟩)
theorem opB_sub : ∀ op ∈ [opB (F := F)], op.bufs ⊆ UC := fun op h => by
  rw [List.mem_singleton.mp h]; exact Pipeline.sub_ucRefs _ (StableHlo.reshape_bufs_sub ..)
theorem opB_fresh : ∀ op ∈ [opB (F := F)], op.fresh = ∅ := fun op h => by rw [List.mem_singleton.mp h]; rfl

theorem three_sub : three ⊆ UC := by decide

/-- All the arrays: the words, the weights, the scores, and the rest. -/
theorem held_three (d : Dev nD) (V : Valuation τ sig (Elt F)) :
    (StableHlo.held (d.tc : Thread nD τ) UC V : sProp 𝕄)
      = iprop(((xLoc d ↦{fullShare} V (at' main_v5)) ∗ (wLoc d ↦{fullShare} V (at' main_v4)) ∗ oLoc d ↦{fullShare} V (at' main_v6))
          ∗ StableHlo.held (d.tc : Thread nD τ) (UC \ three) V) := by
  rw [StableHlo.held_sub_split _ three_sub]
  congr 1
  unfold StableHlo.held
  rw [SparseCore.bigSep_insert' (by decide), SparseCore.bigSep_insert' (by decide), bigSep_singleton]

theorem held_rest (d : Dev nD) :
    (StableHlo.held (d.tc : Thread nD τ) (UC \ three) (VA m d) : sProp 𝕄) = StableHlo.held (d.tc : Thread nD τ) (UC \ three) (VB m d) :=
  StableHlo.held_congr _ fun b hb => (Function.update_of_ne (fun e => (Finset.mem_sdiff.mp hb).2 (by rw [e]; simp [three])) _ _).symm

theorem held_before (d : Dev nD) :
    (StableHlo.held (d.tc : Thread nD τ) UC (VA m d) : sProp 𝕄)
      ⊢ iprop((xPts (Xs m) d ∗ wPts (Ws m) d ∗ oAny d) ∗ StableHlo.held (d.tc : Thread nD τ) (UC \ three) (VB m d)) := by
  rw [held_three, held_rest]
  iintro ⟨⟨Hx, Hw, Ho⟩, Hr⟩
  isplitr [Hr]
  · isplitl [Hx]; · iexact Hx
    isplitl [Hw]; · iexact Hw
    iexists _; iexact Ho
  iexact Hr

theorem VB_x (d : Dev nD) : VB m d (at' main_v5) = Xs m d := Function.update_of_ne (by decide) _ _
theorem VB_w (d : Dev nD) : VB m d (at' main_v4) = Ws m d := Function.update_of_ne (by decide) _ _
theorem VB_o (d : Dev nD) : VB m d (at' main_v6) = scores (Xs m d) (Ws m d) := Function.update_self _ _ _

theorem held_after (d : Dev nD) :
    iprop((xPts (Xs m) d ∗ wPts (Ws m) d ∗ oPts (Xs m) (Ws m) d) ∗ StableHlo.held (d.tc : Thread nD τ) (UC \ three) (VB m d))
      ⊢ (StableHlo.held (d.tc : Thread nD τ) UC (VB m d) : sProp 𝕄) := by
  rw [held_three, VB_x, VB_w, VB_o]

/-! ## The program on the TensorCore -/

abbrev PP : (K (F := F)).Pay (nD := nD) (Val := Elt F) (Name := ℕ) (U := UU) := P (Xs m) (Ws m)

theorem st0_eq (d : Dev nD) : (bigSep Finset.univ fun c : Fin ((K (F := F)).nCore 0) => (PP m).st 0 d c)
    = iprop(xPts (Xs m) d ∗ wPts (Ws m) d ∗ oAny d) :=
  bigSep_univ_of_subsingleton (0 : Fin 1)
theorem dn0_eq (d : Dev nD) : (bigSep Finset.univ fun c : Fin ((K (F := F)).nCore 0) => (PP m).dn 0 d c)
    = iprop(xPts (Xs m) d ∗ wPts (Ws m) d ∗ oPts (Xs m) (Ws m) d) :=
  bigSep_univ_of_subsingleton (0 : Fin 1)

/-- Every array at the end. -/
abbrev FIN (d : Dev nD) : sProp 𝕄 := StableHlo.held (d.tc : Thread nD τ) UC (VC m d)

theorem hmain (κ : GSem nD τ sig → ℕ) (d : Dev nD) :
    iprop((K (F := F)).ctx EH (PP m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show unscopedBufs d (fun b => m ((SparseCore.T d).loc b)) = StableHlo.held (d.tc : Thread nD τ) UC (fun b => m (d, b))
    from Pipeline.unscopedBufs_held (Ix := HIx 1) (Name := ℕ) (U := UU) (Lvl := ℕ) d (fun b => m (d, b))]
  iintro ⟨#Hctx, Hst, ⟨Hb, Hheld, Hts, -⟩, -⟩
  iapply (StableHlo.wp_seq 𝒱 none Set.univ d UC _ opsA opsA_sub opsA_fresh _) $$ [Hb Hheld]
  · isplitl [Hb]; · iexact Hb
    iexact Hheld
  iintro ⟨Hb, Hheld⟩
  icases (held_before m d) $$ [Hheld] with ⟨Hxwo, Hrest⟩
  · iexact Hheld
  rw [wp_bind]
  iapply ((K (F := F)).wp_run (D (F := F)) 𝒱 (EH := EH) (P := PP m) κ d 0) $$ [Hst Hxwo Hb Hrest Hts]
  isplitr; · iexact Hctx
  isplitl [Hst]; · iexact Hst
  isplitl [Hxwo]
  · iapply (Entails.of_eq (st0_eq m d).symm); iexact Hxwo
  iintro ⟨Hst, Hdn⟩
  ihave Hdn' := (Entails.of_eq (dn0_eq m d)) $$ Hdn
  icases (held_after m d) $$ [Hdn' Hrest] with Hheld
  · isplitl [Hdn']; · iexact Hdn'
    iexact Hrest
  iapply (StableHlo.wp_seq 𝒱 none Set.univ d UC _ [opB] opB_sub opB_fresh (VB m d)) $$ [Hb Hheld]
  · isplitl [Hb]; · iexact Hb
    iexact Hheld
  iintro ⟨Hb, Hheld⟩
  rw [wp_pure]; imodintro
  isplitl [Hst]; · iexact Hst
  isplitl [Hheld]; · iexact Hheld
  isplitl [Hb]; · iexact Hb
  iexact Hts

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄) ⊢ |={Set.univ}=> iprop(BI.own (EH (initOf (K (F := F)).hsCells (K (F := F)).hsToks))
    ∗ (bigSep Finset.univ fun _ : Dev nD => iprop(emp)) ∗ bigSep Finset.univ fun thr : Thread nD τ => bigSep Finset.univ fun q : Fin 1 => (PP m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr => bigSep Finset.univ fun q : Fin 1 => (PP (F := F) m).x q thr) = bigSep Finset.univ fun _ => iprop(emp)
    from bigSep_congr fun _ _ => bigSep_univ_of_subsingleton (0 : Fin 1), bigSep_emp']
  iempintro

/-! ## The run -/

/-- Every array of the device stands as the operations leave it. -/
def fq (d : Dev nD) (s' : Phys nD τ sig (Elt F)) : Prop := ∀ b ∈ UC, s'.mem.mem (d, b) = VC m d b

theorem hfin (d : Dev nD) (s' : Phys nD τ sig (Elt F)) : iprop(FIN m d ∗ SI s') ⊢ (⌜fq m d s'⌝ : sProp 𝕄) := by
  unfold FIN StableHlo.held
  iintro ⟨H, HSI⟩
  ihave %h := (SI_pointsTo_bufs_agree (qs := fun _ => fullShare) UC) $$ [HSI H]
  · isplitl [HSI]; · iexact HSI
    iexact H
  ipureintro
  exact h

def QC : PUnit × MemSt nD τ sig (Elt F) → Prop := fun r => (∀ c : Dev nD, ∀ b ∈ UC, r.2.mem (c, b) = VC m c b) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl (Xs m) (Ws m) facts)
    (fun q _ => match q with | 0 => SparseCore.Cfg.VecSplit.of_plain (vecSplit (Xs m) (Ws m)))
    m ρ main (fun _ => iprop(emp)) (FIN m) (u₀ (F := F)) (sep_elim_left.trans (hu₀ m)) (hmain m ρ) (fq m) (hfin m) (QC m)
    (fun _ h hz => ⟨h, hz⟩)

/-! ## What the arrays end with -/

/-- The call and the reshape leave every array but the scores and the result. -/
theorem VC_of (d : Dev nD) (b : Ref sig .tc) (h7 : b ≠ main_v7) (h6 : at' b ≠ at' main_v6) : VC m d (at' b) = VA m d (at' b) := by
  unfold VC opB
  rw [StableHlo.reshape_result_ne _ _ _ _ _ _ _ h7]
  exact Function.update_of_ne h6 _ _

theorem VC_arg0 (d : Dev nD) : VC m d (at' main_arg0) = m (d, at' main_arg0) := by
  rw [VC_of m d _ (by decide) (by decide)]; unfold VA opsA; after_results_simp <;> rfl
theorem VC_arg1 (d : Dev nD) : VC m d (at' main_arg1) = m (d, at' main_arg1) := by
  rw [VC_of m d _ (by decide) (by decide)]; unfold VA opsA; after_results_simp <;> rfl
theorem VC_arg2 (d : Dev nD) : VC m d (at' main_arg2) = m (d, at' main_arg2) := by
  rw [VC_of m d _ (by decide) (by decide)]; unfold VA opsA; after_results_simp <;> rfl
theorem VC_arg3 (d : Dev nD) : VC m d (at' main_arg3) = m (d, at' main_arg3) := by
  rw [VC_of m d _ (by decide) (by decide)]; unfold VA opsA; after_results_simp <;> rfl
theorem VC_arg4 (d : Dev nD) : VC m d (at' main_arg4) = m (d, at' main_arg4) := by
  rw [VC_of m d _ (by decide) (by decide)]; unfold VA opsA; after_results_simp <;> rfl

/-- The words are the rows in a line. -/
theorem Xs_eq (d : Dev nD) : Xs m d = shapeCast S32768 (m (d, at' main_arg0) : (⟨S4x8192, .i32⟩ : BufTy).Contents (Elt F)) shapeCasts_S4x8192_S32768 := by
  unfold Xs VA opsA; after_results_simp <;> rfl

/-- Each weight sixteen times. -/
def spread (f : (⟨S1, .f32⟩ : BufTy).Contents (Elt F)) : (⟨S16, .f32⟩ : BufTy).Contents (Elt F) := broadcastInDim S16 ![0] bcast_S1_S16_0 f

theorem Ws_eq (d : Dev nD) : Ws m d = concatenate S64 0
    [⟨S16, spread (m (d, at' main_arg1))⟩, ⟨S16, spread (m (d, at' main_arg2))⟩, ⟨S16, spread (m (d, at' main_arg3))⟩, ⟨S16, spread (m (d, at' main_arg4))⟩]
    concatenates_S16_S16_S16_S16_S64_d0 := by
  unfold Ws VA opsA; after_results_simp <;> rfl

/-- The result is the scores in rows. -/
theorem VC_res (d : Dev nD) : VC m d (at' main_v7)
    = shapeCast S4x8192 (scores (Xs m d) (Ws m d) : (⟨S32768, .f32⟩ : BufTy).Contents (Elt F)) shapeCasts_S32768_S4x8192 := by
  unfold VC opB
  rw [StableHlo.reshape_result, VB_o]
  rfl

/-- The run's end as the claims put it: the result, then the arguments. -/
theorem run_value [∀ e, Nonempty (Elt F e)] :
    θ_run (Cert.KernelIdeal.defs (F := F)) (Cert.KernelIdeal.threads (F := F)) ⟨m, fun _ => 0, ρ⟩ fun r =>
      (∀ c : Dev nD, r.2.mem ((c.tc : Thread nD τ).loc main_v7)
          = shapeCast S4x8192 (scores (Xs m c) (Ws m c) : (⟨S32768, .f32⟩ : BufTy).Contents (Elt F)) shapeCasts_S32768_S4x8192
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)) ∧ r.2.sem = fun _ => 0 :=
  (θ_run Cert.KernelIdeal.defs _ _).mono (fun _ h => ⟨fun c =>
    ⟨(h.1 c (at' main_v7) (by decide)).trans (VC_res m c), (h.1 c (at' main_arg0) (by decide)).trans (VC_arg0 m c),
      (h.1 c (at' main_arg1) (by decide)).trans (VC_arg1 m c), (h.1 c (at' main_arg2) (by decide)).trans (VC_arg2 m c),
      (h.1 c (at' main_arg3) (by decide)).trans (VC_arg3 m c), (h.1 c (at' main_arg4) (by decide)).trans (VC_arg4 m c)⟩, h.2⟩)
    (run_main m ρ)

end Cert.Proof.Trips
-- ==== Proof.Reference.lean ====
/-
  What the reference computes, read at an index.
-/
module

public import proofs.«01_k».proof.Defs
public import proofs.«01_k».proof.Proof.Gen.ReferenceIdeal.Run
public import Idealize.ShloMosaic.PureOps.Reduce
public import Idealize.ShloMosaic.Lib.Pointwise
public import Idealize.ShloMosaic.Lib.WordArith

@[expose] public section

noncomputable section

namespace Cert.Proof.Ref

open Cert.ReferenceIdeal Cert.ReferenceIdeal.Gen
open Idealize.ShloMosaic Idealize.SL.Sem

section Any
variable {F : FTy → Type} [FloatOps F]

/-- Where a word is one of the first group's, as the reference finds it: one there, zero elsewhere. -/
def in0 (x : IVec S4x8192 32) : FVec F S4x8192 .f32 :=
  uitofp .f32 (Host.reduce IntOp.ori (cmpi .eq (broadcastInDim S4x8192x4 ![0, 1, 2] bcast_S4x8192x1_S4x8192x4_0_1_2 (broadcastInDim S4x8192x1 ![0, 1] bcast_S4x8192_S4x8192x1_0_1 x))
    (broadcastInDim S4x8192x4 ![0, 1, 2] bcast_S1x1x4_S4x8192x4_0_1_2 (broadcastInDim S1x1x4 ![2] bcast_S4_S1x1x4_2 (fun i => lit0 (S4.rowMajor i)))))
    (constantI S_ 1 0#1) reducesTo_S4x8192x4_S4x8192_d2 h_S_)

/-- Where a word is one of the second group's, as the reference finds it: one there, zero elsewhere. -/
def in1 (x : IVec S4x8192 32) : FVec F S4x8192 .f32 :=
  uitofp .f32 (Host.reduce IntOp.ori (cmpi .eq (broadcastInDim S4x8192x5 ![0, 1, 2] bcast_S4x8192x1_S4x8192x5_0_1_2 (broadcastInDim S4x8192x1 ![0, 1] bcast_S4x8192_S4x8192x1_0_1 x))
    (broadcastInDim S4x8192x5 ![0, 1, 2] bcast_S1x1x5_S4x8192x5_0_1_2 (broadcastInDim S1x1x5 ![2] bcast_S5_S1x1x5_2 (fun i => lit1 (S5.rowMajor i)))))
    (constantI S_ 1 0#1) reducesTo_S4x8192x5_S4x8192_d2 h_S_)

/-- Where a word is one of the third group's, as the reference finds it: one there, zero elsewhere. -/
def in2 (x : IVec S4x8192 32) : FVec F S4x8192 .f32 :=
  uitofp .f32 (Host.reduce IntOp.ori (cmpi .eq (broadcastInDim S4x8192x6 ![0, 1, 2] bcast_S4x8192x1_S4x8192x6_0_1_2 (broadcastInDim S4x8192x1 ![0, 1] bcast_S4x8192_S4x8192x1_0_1 x))
    (broadcastInDim S4x8192x6 ![0, 1, 2] bcast_S1x1x6_S4x8192x6_0_1_2 (broadcastInDim S1x1x6 ![2] bcast_S6_S1x1x6_2 (fun i => lit2 (S6.rowMajor i)))))
    (constantI S_ 1 0#1) reducesTo_S4x8192x6_S4x8192_d2 h_S_)

/-- The reference's result. -/
def out (x : IVec S4x8192 32) (a b c s : FVec F S1 .f32) : FVec F S4x8192 .f32 :=
  mulf (concatenate S4x8192 1 [⟨S4x1, (broadcastInDim S4x1 ![] bcast_S_S4x1 (constant S_ .f32 0x00000000#32))⟩, ⟨S4x8191, (mulf (extractStridedSlice S4x8191 ![0, 0] (concatenate S4x8192 1 [⟨S4x1, (broadcastInDim S4x1 ![] bcast_S_S4x1 (constant S_ .f32 0x00000000#32))⟩, ⟨S4x8191, (mulf (extractStridedSlice S4x8191 ![0, 0] (mulf (in0 x) (broadcastInDim S4x8192 ![0, 1] bcast_S1x1_S4x8192_0_1 (broadcastInDim S1x1 ![1] bcast_S1_S1x1_1 a))) slices_S4x8192_S4x8191_0_0) (extractStridedSlice S4x8191 ![0, 1] (mulf (in1 x) (broadcastInDim S4x8192 ![0, 1] bcast_S1x1_S4x8192_0_1 (broadcastInDim S1x1 ![1] bcast_S1_S1x1_1 b))) slices_S4x8192_S4x8191_0_1))⟩] concatenates_S4x1_S4x8191_S4x8192_d1) slices_S4x8192_S4x8191_0_0) (extractStridedSlice S4x8191 ![0, 1] (mulf (in2 x) (broadcastInDim S4x8192 ![0, 1] bcast_S1x1_S4x8192_0_1 (broadcastInDim S1x1 ![1] bcast_S1_S1x1_1 c))) slices_S4x8192_S4x8191_0_1))⟩] concatenates_S4x1_S4x8191_S4x8192_d1) (broadcastInDim S4x8192 ![0, 1] bcast_S1x1_S4x8192_0_1 (broadcastInDim S1x1 ![1] bcast_S1_S1x1_1 s))

theorem run_out (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v42) = out (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := Value.run m ρ

end Any

/-! ## The groups -/

theorem fold_ori {ι : Type} [DecidableEq ι] (S : Finset ι) (p : ι → Prop) [DecidablePred p] :
    S.fold IntOp.ori 0#1 (fun i => BitVec.ofBool (decide (p i))) = BitVec.ofBool (decide (∃ i ∈ S, p i)) := by
  induction S using Finset.induction_on with
  | empty => simp
  | insert i S hi ih =>
    rw [Finset.fold_insert hi, ih, WordArith.ori_ofBool]
    congr 1
    rw [← Bool.decide_or]
    exact decide_eq_decide.mpr (by simp)

/-- Two axes are kept, whatever the last one's extent. -/
theorem two_kept {n : ℕ} : 0 < ((⟨3, ![4, 8192, n]⟩ : Shape).kept [2]).length ∧ 1 < ((⟨3, ![4, 8192, n]⟩ : Shape).kept [2]).length :=
  show 0 < 2 ∧ 1 < 2 by decide

/-- Whether a word is in a list, as the reference's `any` over a last axis of `n` computes it. -/
theorem any_apply {n : ℕ} (h : Shape.ReducesTo ⟨3, ![4, 8192, n]⟩ [2] S4x8192) (x : IVec S4x8192 32) (l : Fin n → BitVec 32)
    (q : IVec ⟨3, ![4, 8192, n]⟩ 1) (hq : ∀ i, q i = BitVec.ofBool (decide (x (ix2 (i 0) (i 1)) = l (i 2)))) (r : Fin 4) (c : Fin 8192) :
    Host.reduce IntOp.ori q (constantI S_ 1 0#1) h h_S_ (ix2 r c) = BitVec.ofBool (decide (∃ k, x (ix2 r c) = l k)) := by
  obtain rfl : q = fun i => BitVec.ofBool (decide (x (ix2 (i 0) (i 1)) = l (i 2))) := funext hq
  rw [Host.reduce_eq_fold]
  refine (fold_ori _ fun i : (⟨3, ![4, 8192, n]⟩ : Shape).Idx => x (ix2 (i 0) (i 1)) = l (i 2)).trans ?_
  refine congrArg BitVec.ofBool (decide_eq_decide.mpr ⟨?_, ?_⟩)
  · rintro ⟨i, hi, e⟩
    have hd := (Finset.mem_filter.mp hi).2
    have h0 : i 0 = r := Fin.ext ((h.drop_apply_val_of_eq i 0 0 two_kept.1 rfl).symm.trans (by rw [hd]; rfl))
    have h1 : i 1 = c := Fin.ext ((h.drop_apply_val_of_eq i 1 1 two_kept.2 rfl).symm.trans (by rw [hd]; rfl))
    rw [h0, h1] at e
    exact ⟨i 2, e⟩
  · rintro ⟨k, e⟩
    refine ⟨ix3 r c k, Finset.mem_filter.mpr ⟨Finset.mem_univ _, ?_⟩, e⟩
    funext b
    fin_cases b
    · exact Fin.ext (h.drop_apply_val_of_eq _ 0 0 two_kept.1 rfl)
    · exact Fin.ext (h.drop_apply_val_of_eq _ 1 1 two_kept.2 rfl)

/-- One where it holds, zero where not. -/
def ind (p : Prop) [Decidable p] : EReal := if p then 1 else 0

theorem uitofp_ofBool (p : Prop) [Decidable p] : (FloatOps.uitofp (F := Ideal) .f32 (BitVec.ofBool (decide p)) : EReal) = ind p := by
  change (((BitVec.ofBool (decide p)).toNat : ℝ) : EReal) = ind p
  by_cases h : p <;> simp [ind, h]

theorem cmpi_eq_ofBool {n : ℕ} (a b : BitVec n) : IntOp.cmpi .eq a b = BitVec.ofBool (decide (a = b)) := rfl

theorem in0_apply (x : IVec S4x8192 32) (r : Fin 4) (c : Fin 8192) : (in0 x (ix2 r c) : Ideal .f32) = ind (∃ k, x (ix2 r c) = lit0 k) := by
  refine (congrArg (FloatOps.uitofp (F := Ideal) .f32) (any_apply _ x lit0 _ (fun i => ?_) r c)).trans (uitofp_ofBool _)
  idx_vars i
  pointwise []
  rw [cmpi_eq_ofBool, show S4.rowMajor (ix1 i2) = i2 from Fin.ext (rowMajor_val1 _)]
  rfl

theorem in1_apply (x : IVec S4x8192 32) (r : Fin 4) (c : Fin 8192) : (in1 x (ix2 r c) : Ideal .f32) = ind (∃ k, x (ix2 r c) = lit1 k) := by
  refine (congrArg (FloatOps.uitofp (F := Ideal) .f32) (any_apply _ x lit1 _ (fun i => ?_) r c)).trans (uitofp_ofBool _)
  idx_vars i
  pointwise []
  rw [cmpi_eq_ofBool, show S5.rowMajor (ix1 i2) = i2 from Fin.ext (rowMajor_val1 _)]
  rfl

theorem in2_apply (x : IVec S4x8192 32) (r : Fin 4) (c : Fin 8192) : (in2 x (ix2 r c) : Ideal .f32) = ind (∃ k, x (ix2 r c) = lit2 k) := by
  refine (congrArg (FloatOps.uitofp (F := Ideal) .f32) (any_apply _ x lit2 _ (fun i => ?_) r c)).trans (uitofp_ofBool _)
  idx_vars i
  pointwise []
  rw [cmpi_eq_ofBool, show S6.rowMajor (ix1 i2) = i2 from Fin.ext (rowMajor_val1 _)]
  rfl

/-- The product of three marked weights: all three, or nothing. Zero times an infinite weight is zero. -/
theorem ind_mul (A B C : Prop) [Decidable A] [Decidable B] [Decidable C] (a b c s : EReal) :
    ind A * a * (ind B * b) * (ind C * c) * s = if (A ∧ B) ∧ C then a * b * c * s else 0 := by
  unfold ind
  by_cases hA : A <;> by_cases hB : B <;> by_cases hC : C <;> simp [hA, hB, hC]

/-- Three words are a match. -/
def match3 (u v w : BitVec 32) : Prop := ((∃ k, u = lit0 k) ∧ ∃ k, v = lit1 k) ∧ ∃ k, w = lit2 k

instance (u v w : BitVec 32) : Decidable (match3 u v w) := by unfold match3; infer_instance

/-- The reference at row `r`, column `p`: the weights' product where the row's words `p-2`, `p-1`, `p` are a match. -/
theorem out_apply (x : IVec S4x8192 32) (a b c s : FVec Ideal S1 .f32) (r : Fin 4) (p : Fin 8192) :
    out x a b c s (ix2 r p)
      = if h : 2 ≤ p.val then
          if match3 (x (ix2 r ⟨p.val - 2, by omega⟩)) (x (ix2 r ⟨p.val - 1, by omega⟩)) (x (ix2 r p))
            then a (ix1 0) * b (ix1 0) * c (ix1 0) * s (ix1 0) else (0 : EReal)
        else (0 : EReal) := by
  pointwise [out]
  by_cases h0 : p.val < 1
  · rw [dif_pos h0, dif_neg (by omega)]; exact zero_mul _
  by_cases h1 : p.val - 1 < 1
  · rw [dif_neg h0, dif_pos h1, dif_neg (by omega)]; exact (congrArg (· * s (ix1 0)) (zero_mul _)).trans (zero_mul _)
  rw [dif_neg h0, dif_neg h1, dif_pos (by omega), in0_apply, in1_apply, in2_apply]
  have e0 : (⟨p.val - 1 - 1, by omega⟩ : Fin 8192) = ⟨p.val - 2, by omega⟩ := Fin.ext (by simp only; omega)
  have e1 : (⟨1 + (p.val - 1 - 1), by omega⟩ : Fin 8192) = ⟨p.val - 1, by omega⟩ := Fin.ext (by simp only; omega)
  have e2 : (⟨1 + (p.val - 1), by omega⟩ : Fin 8192) = p := Fin.ext (by simp only; omega)
  rw [e0, e1, e2]
  exact ind_mul _ _ _ _ _ _ _

end Cert.Proof.Ref
-- ==== Proof.Equation.lean ====
/-
  The kernel's result is the reference's, over the extended reals.
-/
module

public import proofs.«01_k».proof.Proof.Launch
public import proofs.«01_k».proof.Proof.Reference

@[expose] public section

noncomputable section

namespace Cert.Proof.Trips

open Cert.KernelIdeal Cert.KernelIdeal.Gen
open Idealize.ShloMosaic Idealize.SL.Sem

/-! ## A match, as the kernel finds it -/

theorem eqW_apply (a n : BitVec 32) : eqW (fun _ => a) n (lane 0) = BitVec.ofBool (decide (a = n)) := rfl

theorem ori_prop (p q : Prop) [Decidable p] [Decidable q] :
    IntOp.ori (BitVec.ofBool (decide p)) (BitVec.ofBool (decide q)) = BitVec.ofBool (decide (p ∨ q)) := by
  rw [WordArith.ori_ofBool, Bool.decide_or]

theorem andi_prop (p q : Prop) [Decidable p] [Decidable q] :
    IntOp.andi (BitVec.ofBool (decide p)) (BitVec.ofBool (decide q)) = BitVec.ofBool (decide (p ∧ q)) := by
  rw [WordArith.andi_ofBool, Bool.decide_and]

theorem ofBool_congr {p q : Prop} [Decidable p] [Decidable q] (h : p ↔ q) : BitVec.ofBool (decide p) = BitVec.ofBool (decide q) :=
  congrArg _ (decide_eq_decide.mpr h)

theorem inA_apply (a : BitVec 32) : inA (fun _ => a) (lane 0) = BitVec.ofBool (decide (∃ k, a = Cert.ReferenceIdeal.lit0 k)) := by
  simp only [inA, ori_apply, eqW_apply, ori_prop]
  exact ofBool_congr (by simp [Fin.exists_fin_succ, Cert.ReferenceIdeal.lit0, or_assoc])

theorem inB_apply (a : BitVec 32) : inB (fun _ => a) (lane 0) = BitVec.ofBool (decide (∃ k, a = Cert.ReferenceIdeal.lit1 k)) := by
  simp only [inB, ori_apply, eqW_apply, ori_prop]
  exact ofBool_congr (by simp [Fin.exists_fin_succ, Cert.ReferenceIdeal.lit1, or_assoc])

theorem inC_apply (a : BitVec 32) : inC (fun _ => a) (lane 0) = BitVec.ofBool (decide (∃ k, a = Cert.ReferenceIdeal.lit2 k)) := by
  simp only [inC, ori_apply, eqW_apply, ori_prop]
  exact ofBool_congr (by simp [Fin.exists_fin_succ, Cert.ReferenceIdeal.lit2, or_assoc])

theorem hit1_eq (a b c : BitVec 32) : hit1 a b c = BitVec.ofBool (decide (Ref.match3 a b c)) := by
  unfold hit1 hit
  simp only [andi_apply, inA_apply, inB_apply, inC_apply, andi_prop]
  exact ofBool_congr Iff.rfl

theorem select_ofBool {α : Type} (p : Prop) [Decidable p] (x y : α) : Scalar.select (BitVec.ofBool (decide p)) x y = if p then x else y := by
  by_cases h : p <;> simp [Scalar.select, h]

/-! ## The words and the weights -/

theorem line_apply {α : Type} (f : S4x8192.Idx → α) (h : S4x8192.ShapeCasts S32768) (r : Fin 4) (c : Fin 8192) :
    shapeCast S32768 f h (ix1 ⟨8192 * r.val + c.val, by omega⟩) = f (ix2 r c) := by
  pointwise []

theorem rows_apply {α : Type} (f : S32768.Idx → α) (h : S32768.ShapeCasts S4x8192) (r : Fin 4) (c : Fin 8192) :
    shapeCast S4x8192 f h (ix2 r c) = f (ix1 ⟨8192 * r.val + c.val, by omega⟩) := by
  pointwise []
  exact congrArg f (congrArg ix1 (Fin.ext (by simp only; omega)))

/-- The weights as laid out for the call. -/
def laid (a b c s : FVec Ideal S1 .f32) : FVec Ideal S64 .f32 :=
  concatenate S64 0 [⟨S16, (spread (F := Ideal) a : FVec Ideal S16 .f32)⟩, ⟨S16, (spread (F := Ideal) b : FVec Ideal S16 .f32)⟩,
    ⟨S16, (spread (F := Ideal) c : FVec Ideal S16 .f32)⟩, ⟨S16, (spread (F := Ideal) s : FVec Ideal S16 .f32)⟩] concatenates_S16_S16_S16_S16_S64_d0

theorem laid_apply (a b c s : FVec Ideal S1 .f32) (k : Fin 64) :
    laid a b c s (ix1 k) = if k.val < 16 then a (ix1 0) else if k.val < 32 then b (ix1 0) else if k.val < 48 then c (ix1 0) else s (ix1 0) := by
  pointwise [laid, spread]
  by_cases h0 : k.val < 16
  · rw [dif_pos h0, if_pos h0]
  by_cases h1 : k.val < 32
  · rw [dif_neg h0, if_neg h0, dif_pos (by omega), if_pos h1]
  by_cases h2 : k.val < 48
  · rw [dif_neg h0, if_neg h0, dif_neg (by omega), if_neg h1, dif_pos (by omega), if_pos h2]
  rw [dif_neg h0, if_neg h0, dif_neg (by omega), if_neg h1, dif_neg (by omega), if_neg h2]

theorem wpart_laid (a b c s : FVec Ideal S1 .f32) (t : S16.Idx) (n : ℕ) (hn : n ≤ 48) :
    wpart (F := Ideal) (laid a b c s) n t = if n + (t 0).val < 16 then a (ix1 0) else if n + (t 0).val < 32 then b (ix1 0) else if n + (t 0).val < 48 then c (ix1 0) else s (ix1 0) := by
  have ht : (t 0).val < 16 := (t 0).isLt
  unfold wpart
  rw [laid_apply, show (Fin.ofNat 64 (n + (t 0).val)).val = n + (t 0).val from Nat.mod_eq_of_lt (by omega)]

theorem wvec_apply (a b c s : FVec Ideal S1 .f32) (t : S16.Idx) :
    wvec (F := Ideal) (laid a b c s) t = (a (ix1 0) * b (ix1 0) * c (ix1 0) * s (ix1 0) : EReal) := by
  have ht : (t 0).val < 16 := (t 0).isLt
  unfold wvec
  pointwise []
  rw [wpart_laid _ _ _ _ _ _ (by omega), wpart_laid _ _ _ _ _ _ (by omega), wpart_laid _ _ _ _ _ _ (by omega), wpart_laid _ _ _ _ _ _ (by omega),
    if_pos (by omega), if_neg (by omega), if_pos (by omega), if_neg (by omega), if_neg (by omega), if_pos (by omega),
    if_neg (by omega), if_neg (by omega), if_neg (by omega)]

theorem zvec_apply (t : S16.Idx) : zvec (F := Ideal) t = (0 : EReal) := by
  unfold zvec
  pointwise []

/-! ## The results agree -/

theorem scores_apply (X : S32768.Idx → BitVec 32) (W : FVec Ideal S64 .f32) (n : ℕ) (hn : n < 32768) :
    scores (F := Ideal) X W (ix1 ⟨n, hn⟩) = score X (wvec W) zvec n := rfl

/-- The kernel's scores in rows are the reference's result. -/
theorem scores_eq (x : IVec S4x8192 32) (a b c s : FVec Ideal S1 .f32) :
    shapeCast S4x8192 (scores (F := Ideal) (shapeCast S32768 x shapeCasts_S4x8192_S32768) (laid a b c s)) shapeCasts_S32768_S4x8192
      = Ref.out (F := Ideal) x a b c s := by
  funext j
  idx_vars j
  rw [rows_apply, Ref.out_apply, scores_apply]
  unfold score
  have hj : j1.val < 8192 := j1.isLt
  have hr : j0.val < 4 := j0.isLt
  have hword : ∀ q : Fin 8192, word (shapeCast S32768 x shapeCasts_S4x8192_S32768) (8192 * j0.val + q.val) = x (ix2 j0 q) := fun q => by
    unfold word
    rw [show Fin.ofNat 32768 (8192 * j0.val + q.val) = (⟨8192 * j0.val + q.val, by omega⟩ : Fin 32768) from
      Fin.ext (Nat.mod_eq_of_lt (by omega)), line_apply]
  by_cases h : 2 ≤ j1.val
  · rw [dif_pos h, if_pos (by omega), hword j1, wvec_apply, zvec_apply, hit1_eq, select_ofBool,
      show 8192 * j0.val + j1.val - 2 = 8192 * j0.val + (⟨j1.val - 2, by omega⟩ : Fin 8192).val by simp only; omega, hword,
      show 8192 * j0.val + j1.val - 1 = 8192 * j0.val + (⟨j1.val - 1, by omega⟩ : Fin 8192).val by simp only; omega, hword]
  · rw [dif_neg h, if_neg (by omega), zvec_apply]

end Cert.Proof.Trips
-- ==== Proof.lean ====
/-
  The claims: the three frames, the idealization, and that kernel and reference compute the same function over the
  extended reals.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Equation
public import Idealize.ShloMosaic.Adequacy
public import Idealize.ShloMosaic.Init

@[expose] public section

noncomputable section

namespace Cert.Proof

open Idealize.ShloMosaic Idealize.SL.Sem

/-- The kernel's text is its idealization's, so the run over the bit patterns is the other's. -/
theorem frame_kernel : Cert.quiescent_Kernel := fun m ρ _ =>
  (θ_run Cert.KernelIdeal.defs _ _).mono (fun _ h => ⟨fun c => (h.1 c).2, h.2⟩) (Trips.run_value (F := Bits) m ρ)

theorem frame_ideal : Cert.quiescent_KernelIdeal := fun m ρ _ =>
  (θ_run Cert.KernelIdeal.defs _ _).mono (fun _ h => ⟨fun c => (h.1 c).2, h.2⟩) (Trips.run_value (F := Ideal) m ρ)

/-- The reference has no semaphore. -/
theorem frame_reference : Cert.quiescent_ReferenceIdeal := fun m ρ _ =>
  (θ_run Cert.ReferenceIdeal.defs _ _).mono
    (fun _ h => ⟨fun c => (h c).2, funext fun g => match g with | (_, .reg k) => k.elim0 | (_, .dma k) => k.elim0⟩)
    (Ref.run_out (F := Ideal) m ρ)

theorem same_function : Cert.algebraic_KernelIdeal_ReferenceIdeal := fun m g m' g' _ hin =>
  ⟨fun c => Ref.out (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    (θ_run Cert.KernelIdeal.defs _ _).mono
      (fun _ h c => ⟨(h.1 c).1.trans (by rw [Trips.Xs_eq, Trips.Ws_eq]; exact Trips.scores_eq _ _ _ _ _), (h.1 c).2⟩)
      (Trips.run_value (F := Ideal) m g),
    (θ_run Cert.ReferenceIdeal.defs _ _).mono
      (fun _ h c => ⟨(h c).1.trans (by rw [(hin c).1, (hin c).2.1, (hin c).2.2.1, (hin c).2.2.2.1, (hin c).2.2.2.2]), (h c).2⟩)
      (Ref.run_out (F := Ideal) m' g')⟩

theorem claim : Cert.Claim := ⟨Cert.Kernel.Gen.facts, Cert.KernelIdeal.Gen.facts, Cert.ReferenceIdeal.Gen.facts,
  frame_kernel, frame_ideal, frame_reference, trivial, same_function⟩

end Cert.Proof

end
